-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x896 : Shape := ⟨3, ![96, 1, 896]⟩
abbrev S151936x448 : Shape := ⟨2, ![151936, 448]⟩
abbrev S151936 : Shape := ⟨1, ![151936]⟩
abbrev S96x896 : Shape := ⟨2, ![96, 896]⟩
abbrev S448x151936 : Shape := ⟨2, ![448, 151936]⟩
abbrev S1x96 : Shape := ⟨2, ![1, 96]⟩
abbrev S96x1x151936 : Shape := ⟨3, ![96, 1, 151936]⟩
abbrev S448x7680 : Shape := ⟨2, ![448, 7680]⟩
abbrev S96x1x7680 : Shape := ⟨3, ![96, 1, 7680]⟩
abbrev S96x128 : Shape := ⟨2, ![96, 128]⟩
abbrev S96 : Shape := ⟨1, ![96]⟩
abbrev S96x1 : Shape := ⟨2, ![96, 1]⟩
abbrev S128x96 : Shape := ⟨2, ![128, 96]⟩
abbrev S128x128 : Shape := ⟨2, ![128, 128]⟩
abbrev S8x128 : Shape := ⟨2, ![8, 128]⟩
abbrev S448x256 : Shape := ⟨2, ![448, 256]⟩
abbrev S448x1x256 : Shape := ⟨3, ![448, 1, 256]⟩
abbrev S448x2x256 : Shape := ⟨3, ![448, 2, 256]⟩
abbrev S896x256 : Shape := ⟨2, ![896, 256]⟩
abbrev S96x256 : Shape := ⟨2, ![96, 256]⟩
abbrev S128 : Shape := ⟨1, ![128]⟩
abbrev S1x128 : Shape := ⟨2, ![1, 128]⟩
abbrev S8x1x128 : Shape := ⟨3, ![8, 1, 128]⟩
abbrev S448x128 : Shape := ⟨2, ![448, 128]⟩
abbrev S448x1x128 : Shape := ⟨3, ![448, 1, 128]⟩
abbrev S448x2x128 : Shape := ⟨3, ![448, 2, 128]⟩
abbrev S896x128 : Shape := ⟨2, ![896, 128]⟩

abbrev nBuf : Space → Nat
  | .hbm => 16
  | .vmem => 16
  | .smem => 0
  | _ => 0

abbrev bufTy : (tb : Table) → Fin (tcTables nBuf tb) → BufTy
  | .hbm, ⟨0, _⟩ => ⟨S96x1x896, .bf16⟩
  | .hbm, ⟨1, _⟩ => ⟨S151936x448, .i8⟩
  | .hbm, ⟨2, _⟩ => ⟨S151936, .f32⟩
  | .hbm, ⟨3, _⟩ => ⟨S96x896, .bf16⟩
  | .hbm, ⟨4, _⟩ => ⟨S448x151936, .i8⟩
  | .hbm, ⟨5, _⟩ => ⟨S1x96, .i32⟩
  | .hbm, ⟨6, _⟩ => ⟨S1x96, .f32⟩
  | .hbm, ⟨7, _⟩ => ⟨S1x96, .f32⟩
  | .hbm, ⟨8, _⟩ => ⟨S96x1x151936, .f32⟩
  | .hbm, ⟨9, _⟩ => ⟨S96x896, .i8⟩
  | .hbm, ⟨10, _⟩ => ⟨S1x96, .f32⟩
  | .hbm, ⟨11, _⟩ => ⟨S96x1, .i32⟩
  | .hbm, ⟨12, _⟩ => ⟨S96x1, .f32⟩
  | .hbm, ⟨13, _⟩ => ⟨S96x1, .f32⟩
  | .hbm, ⟨14, _⟩ => ⟨S96x1x896, .i8⟩
  | .hbm, ⟨15, _⟩ => ⟨S96x1, .f32⟩
  | .local _ .vmem, ⟨0, _⟩ => ⟨S96x896, .bf16⟩
  | .local _ .vmem, ⟨1, _⟩ => ⟨S448x7680, .i8⟩
  | .local _ .vmem, ⟨2, _⟩ => ⟨S448x7680, .i8⟩
  | .local _ .vmem, ⟨3, _⟩ => ⟨S151936, .f32⟩
  | .local _ .vmem, ⟨4, _⟩ => ⟨S1x96, .i32⟩
  | .local _ .vmem, ⟨5, _⟩ => ⟨S1x96, .f32⟩
  | .local _ .vmem, ⟨6, _⟩ => ⟨S1x96, .f32⟩
  | .local _ .vmem, ⟨7, _⟩ => ⟨S96x1x7680, .f32⟩
  | .local _ .vmem, ⟨8, _⟩ => ⟨S96x1x7680, .f32⟩
  | .local _ .vmem, ⟨9, _⟩ => ⟨S96x896, .i8⟩
  | .local _ .vmem, ⟨10, _⟩ => ⟨S1x96, .f32⟩
  | .local _ .vmem, ⟨11, _⟩ => ⟨S96x896, .bf16⟩
  | .local _ .vmem, ⟨12, _⟩ => ⟨S96x128, .f32⟩
  | .local _ .vmem, ⟨13, _⟩ => ⟨S96x128, .f32⟩
  | .local _ .vmem, ⟨14, _⟩ => ⟨S96x128, .f32⟩
  | .local _ .vmem, ⟨15, _⟩ => ⟨S96x128, .i32⟩
  | _, _ => ⟨S96x1x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v4 : BitVec 1 := Scalar.cmpi .slt arg0 c19_i32
  let v5 : BitVec 32 := Scalar.extui v4
  let c0_i32_1 : BitVec 32 := 0#32
  let v6 : BitVec 1 := Scalar.cmpi .ne v5 c0_i32_1
  v6

def k0_off1 (i : grid0.Coords) (c0_i32_70 : BitVec 32) : Fin 1 → Nat :=
  let arg0 : BitVec 32 := BitVec.ofNat 32 (i 0).val
  let c60_i32 : BitVec 32 := 60#32
  let v3 : BitVec 32 := Scalar.muli arg0 c60_i32
  let v66 : BitVec 32 := Scalar.addi v3 c0_i32_70
  let c128_i32 : BitVec 32 := 128#32
  let v67 : BitVec 32 := Scalar.muli v66 c128_i32
  let v68 : Index := Scalar.indexCast v67
  ![v68.toNat]
def k0_cond3 (i : grid0.Coords) : BitVec 1 :=
  let arg0 : BitVec 32 := BitVec.ofNat 32 (i 0).val
  let c19_i32_2 : BitVec 32 := 19#32
  let v7 : BitVec 1 := Scalar.cmpi .eq arg0 c19_i32_2
  let v8 : BitVec 32 := Scalar.extui v7
  let c0_i32_3 : BitVec 32 := 0#32
  let v9 : BitVec 1 := Scalar.cmpi .ne v8 c0_i32_3
  v9

def k0_off2 (i : grid0.Coords) (c0_i32_70 : BitVec 32) : Fin 1 → Nat :=
  let arg0 : BitVec 32 := BitVec.ofNat 32 (i 0).val
  let c60_i32 : BitVec 32 := 60#32
  let v3 : BitVec 32 := Scalar.muli arg0 c60_i32
  let v66 : BitVec 32 := Scalar.addi v3 c0_i32_70
  let c128_i32 : BitVec 32 := 128#32
  let v67 : BitVec 32 := Scalar.muli v66 c128_i32
  let v68 : Index := Scalar.indexCast v67
  ![v68.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S448x7680 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S151936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x1x7680 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S96x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S96x1x896 : Shape := ⟨3, ![96, 1, 896]⟩
abbrev S151936x448 : Shape := ⟨2, ![151936, 448]⟩
abbrev S151936 : Shape := ⟨1, ![151936]⟩
abbrev S96x896 : Shape := ⟨2, ![96, 896]⟩
abbrev S96x1 : Shape := ⟨2, ![96, 1]⟩
abbrev S96x1x151936 : Shape := ⟨3, ![96, 1, 151936]⟩
abbrev S96 : Shape := ⟨1, ![96]⟩
abbrev S96x28x32 : Shape := ⟨3, ![96, 28, 32]⟩
abbrev S96x28x16 : Shape := ⟨3, ![96, 28, 16]⟩
abbrev S96x448 : Shape := ⟨2, ![96, 448]⟩
abbrev S96x151936 : Shape := ⟨2, ![96, 151936]⟩
abbrev S1x151936 : Shape := ⟨2, ![1, 151936]⟩

abbrev nBuf : Space → Nat
  | .hbm => 10
  | .vmem => 9
  | .smem => 0
  | _ => 0

abbrev bufTy : (tb : Table) → Fin (tcTables nBuf tb) → BufTy
  | .hbm, ⟨0, _⟩ => ⟨S96x1x896, .bf16⟩
  | .hbm, ⟨1, _⟩ => ⟨S151936x448, .i8⟩
  | .hbm, ⟨2, _⟩ => ⟨S151936, .f32⟩
  | .hbm, ⟨3, _⟩ => ⟨S96x896, .bf16⟩
  | .hbm, ⟨4, _⟩ => ⟨S96x1, .i32⟩
  | .hbm, ⟨5, _⟩ => ⟨S96x1, .f32⟩
  | .hbm, ⟨6, _⟩ => ⟨S96x1, .f32⟩
  | .hbm, ⟨7, _⟩ => ⟨S96x1x151936, .f32⟩
  | .hbm, ⟨8, _⟩ => ⟨S96x1x896, .i8⟩
  | .hbm, ⟨9, _⟩ => ⟨S96x1, .f32⟩
  | .local _ .vmem, ⟨0, _⟩ => ⟨S96x896, .bf16⟩
  | .local _ .vmem, ⟨1, _⟩ => ⟨S151936x448, .i8⟩
  | .local _ .vmem, ⟨2, _⟩ => ⟨S151936, .f32⟩
  | .local _ .vmem, ⟨3, _⟩ => ⟨S96x1, .i32⟩
  | .local _ .vmem, ⟨4, _⟩ => ⟨S96x1, .f32⟩
  | .local _ .vmem, ⟨5, _⟩ => ⟨S96x1, .f32⟩
  | .local _ .vmem, ⟨6, _⟩ => ⟨S96x1x151936, .f32⟩
  | .local _ .vmem, ⟨7, _⟩ => ⟨S96x1x896, .i8⟩
  | .local _ .vmem, ⟨8, _⟩ => ⟨S96x1, .f32⟩
  | _, _ => ⟨S96x1x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S96x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S151936x448 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1x151936 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x1x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Head.Program.lean ====
/-
  The kernel's column pass written as the loops it was unrolled from.

  `columns n` is one grid step's pass over `n` tiles of 128 vocabulary columns: it reads the permuted codes, then the
  three running arrays (best, second best, tile of the best) by groups of 8 rows, multiplies block after block of
  unpacked weights, scales and stores each 8 x 128 tile of logits, and writes the running arrays back.

  Everything is generic in the buffer signature and in the float type, so that the program as printed and its
  idealization share one text.
-/
module

public import Idealize.ShloMosaic.Lib.Pipeline
public import Idealize.ShloMosaic.Lib.Scf
public import Idealize.ShloMosaic.Lib.Sig
public import Idealize.ShloMosaic.PureOps

@[expose] public section

noncomputable section

namespace Head

open Idealize.ShloMosaic Idealize.SL.Sem

abbrev S151936 : Shape := ⟨1, ![151936]⟩
abbrev S96x896 : Shape := ⟨2, ![96, 896]⟩
abbrev S448x7680 : Shape := ⟨2, ![448, 7680]⟩
abbrev S96x1x7680 : Shape := ⟨3, ![96, 1, 7680]⟩
abbrev S96x128 : Shape := ⟨2, ![96, 128]⟩
abbrev S8x128 : Shape := ⟨2, ![8, 128]⟩
abbrev S448xN (n : Nat) : Shape := ⟨2, ![448, n]⟩
abbrev S448x1xN (n : Nat) : Shape := ⟨3, ![448, 1, n]⟩
abbrev S448x2xN (n : Nat) : Shape := ⟨3, ![448, 2, n]⟩
abbrev S896xN (n : Nat) : Shape := ⟨2, ![896, n]⟩
abbrev S96xN (n : Nat) : Shape := ⟨2, ![96, n]⟩
abbrev S128 : Shape := ⟨1, ![128]⟩
abbrev S1x128 : Shape := ⟨2, ![1, 128]⟩
abbrev S1x96 : Shape := ⟨2, ![1, 96]⟩
abbrev S96 : Shape := ⟨1, ![96]⟩
abbrev S96x1 : Shape := ⟨2, ![96, 1]⟩
abbrev S128x96 : Shape := ⟨2, ![128, 96]⟩
abbrev S128x128 : Shape := ⟨2, ![128, 128]⟩
abbrev S8x1x128 : Shape := ⟨3, ![8, 1, 128]⟩

theorem pos8x128 : 0 < S8x128.numel := by decide
theorem pos8x1x128 : 0 < S8x1x128.numel := by decide
theorem pos128 : 0 < S128.numel := by decide
theorem pos448x256 : 0 < (S448xN 256).numel := by decide
theorem pos448x128 : 0 < (S448xN 128).numel := by decide

theorem pos96x896 : 0 < S96x896.numel := by decide
theorem pos96x128 : 0 < S96x128.numel := by decide
theorem pos1x96 : 0 < S1x96.numel := by decide
theorem inb_run : ∀ a, (![0, 0] : Fin 2 → Nat) a + S96x128.size a ≤ S96x128.size a := by decide
theorem inb_row : ∀ a, (![0, 0] : Fin 2 → Nat) a + S1x96.size a ≤ S1x96.size a := by decide
theorem inb_codes : ∀ a, (![0, 0] : Fin 2 → Nat) a + S96x896.size a ≤ S96x896.size a := by decide

variable {nD : Nat} {τ : Topo} {sig : RefSig} {F : FTy → Type} [FloatOps F] {Λ : Labels}

/-- The shape relations of one block of `n` columns. -/
structure Blk (n : Nat) : Prop where
  pos : 0 < (S448xN n).numel
  same : (S448xN n).ShapeCasts (S448xN n)
  split : (S448xN n).ShapeCasts (S448x1xN n)
  cat : Shape.Concatenates [S448x1xN n, S448x1xN n] (S448x2xN n) 1
  join : (S448x2xN n).ShapeCasts (S896xN n)
  dot : DotDims.WF S96x896 (S896xN n) (S96xN n) [1] [0] [0] [1] [] []

theorem blk256 : Blk 256 := ⟨by decide, by decide, by decide, by decide, by decide, by decide⟩
theorem blk128 : Blk 128 := ⟨by decide, by decide, by decide, by decide, by decide, by decide⟩

/-- Rows of codes against columns of weights. -/
def dims {n : Nat} (h : Blk n) : DotDims S96x896 (S896xN n) (S96xN n) where
  lhsContracting := [1]
  rhsContracting := [0]
  lhsNonContracting := [0]
  rhsNonContracting := [1]
  lhsBatch := []
  rhsBatch := []
  wf := h.dot

/-- A block of packed bytes as 896 rows of signed nibbles: row `2k` the low nibble of byte row `k`, row `2k + 1` the high one. -/
def nibbles {n : Nat} (h : Blk n) (v : IVec (S448xN n) 8) : IVec (S896xN n) 32 :=
  let u : IVec (S448xN n) 32 := extui 32 (xori (shapeCast (S448xN n) v h.same) (broadcast (S448xN n) 136#8)) (by decide)
  let lo : IVec (S448xN n) 32 := shrsi (shli u (broadcast (S448xN n) 28#32)) (broadcast (S448xN n) 28#32)
  let hi : IVec (S448xN n) 32 := shrsi (shli u (broadcast (S448xN n) 24#32)) (broadcast (S448xN n) 28#32)
  shapeCast (S896xN n) (concatenate (S448x2xN n) 1 [⟨S448x1xN n, shapeCast (S448x1xN n) lo h.split⟩,
    ⟨S448x1xN n, shapeCast (S448x1xN n) hi h.split⟩] h.cat) h.join

/-- The codes against one block of weights. -/
def acc {n : Nat} (h : Blk n) (xp : FVec F S96x896 .bf16) (v : IVec (S448xN n) 8) : FVec F (S96xN n) .f32 :=
  matmul (dims h) none xp (sitofp .bf16 (nibbles h v)) (constant (S96xN n) .f32 0x00000000#32)

/-- One group of 8 rows of the running arrays: best, second best, tile of the best. -/
structure Row (F : FTy → Type) where
  m1 : FVec F S8x128 .f32
  m2 : FVec F S8x128 .f32
  ix : IVec S8x128 32

/-- `n` groups of rows. -/
def Rows (F : FTy → Type) : Nat → Type
  | 0 => PUnit
  | n + 1 => Row F × Rows F n

theorem inb_rows {k n : Nat} (h : k + (n + 1) = 12) : ∀ a, (![8 * k, 0] : Fin 2 → Nat) a + S8x128.size a ≤ S96x128.size a := by
  intro a
  match a with
  | 0 => show 8 * k + 8 ≤ 96; omega
  | 1 => show 0 + 128 ≤ 128; omega

theorem inb_out {k n t N : Nat} (h : k + (n + 1) = 12) (ht : t < N) (hN : N ≤ 60) :
    ∀ a, (![8 * k, 0, 128 * t] : Fin 3 → Nat) a + S8x1x128.size a ≤ S96x1x7680.size a := by
  intro a
  match a with
  | 0 => show 8 * k + 8 ≤ 96; omega
  | 1 => show 0 + 1 ≤ 1; omega
  | 2 => show 128 * t + 128 ≤ 7680; omega

theorem next {k n : Nat} (h : k + (n + 1) = 12) : (k + 1) + n = 12 := by omega

/-- The side conditions of a slice of 8 rows and 128 columns, from column `l` of a block of `n`. -/
abbrev Cut (n l : Nat) : Prop := ∀ k, k < 12 → (S96xN n).Slices ![8 * k, l] S8x128

/-- One group's running arrays after a tile `y`. -/
def Row.step (s : Row F) (tile : IVec S8x128 32) (y : FVec F S8x128 .f32) : Row F where
  m1 := maximumf s.m1 y
  m2 := maximumf s.m2 (minimumf s.m1 y)
  ix := select (cmpf .ogt y s.m1) tile s.ix

/-- One tile's row groups, from group `k` on. -/
def rowGo (out : Memref sig .tc .vmem S96x1x7680 .f32) (xs : Memref sig .tc .vmem S96x128 .f32) {n l : Nat}
    (hc : Cut n l) (a : FVec F (S96xN n) .f32) (ws : FVec F S1x128 .f32) (tile : IVec S8x128 32) {t N : Nat} (ht : t < N) (hN : N ≤ 60) :
    (m k : Nat) → k + m = 12 → Rows F m → Prog (TpuEff nD τ sig (Elt F) Λ .tc) (Rows F m)
  | 0, _, _, _ => pure ⟨⟩
  | m + 1, k, h, (s, ss) => do
    let x : Vec F S8x128 .f32 ← Prog.lift (.load xs (Rect.unit (s := S96x128) ![8 * k, 0] S8x128.size (inb_rows h)).toLoadRect (View.loadsAt_vmem pos8x128))
    let y : FVec F S8x128 .f32 := mulf (mulf (extractStridedSlice S8x128 ![8 * k, l] a (hc k (by omega))) x) (broadcastTo S8x128 ws (by decide))
    let _ : Vec F S8x1x128 .f32 ← Prog.lift (.load out (Rect.unit (s := S96x1x7680) ![8 * k, 0, 128 * t] S8x1x128.size (inb_out h ht hN)).toLoadRect (View.loadsAt_vmem pos8x1x128))
    Prog.lift (.store out (Rect.unit (s := S96x1x7680) ![8 * k, 0, 128 * t] S8x1x128.size (inb_out h ht hN)) (shapeCast S8x1x128 y (by decide)) Finset.univ (View.stores_vmem_bits_univ pos8x1x128 rfl) (.inl rfl))
    let ss' ← rowGo out xs hc a ws tile ht hN m (k + 1) (next h) ss
    pure (s.step tile y, ss')

/-- Where the column scales of tile `t` lie in their array: `off (BitVec.ofNat 32 t)`, inside it for each tile. -/
structure Scales (N : Nat) where
  v3 : BitVec 32
  off : BitVec 32 → Fin 1 → Nat
  inb : ∀ r : Fin N, ∀ a, off (BitVec.ofNat 32 r.val) a + S128.size a ≤ S151936.size a

/-- One tile: its column scales, then its row groups. -/
def tile (sc : Memref sig .tc .vmem S151936 .f32) (out : Memref sig .tc .vmem S96x1x7680 .f32) (xs : Memref sig .tc .vmem S96x128 .f32)
    {N : Nat} (hN : N ≤ 60) (o : Scales N) {n l : Nat} (hc : Cut n l) (a : FVec F (S96xN n) .f32) (t : Nat) (ht : t < N) (s : Rows F 12) :
    Prog (TpuEff nD τ sig (Elt F) Λ .tc) (Rows F 12) := do
  let w : Vec F S128 .f32 ← Prog.lift (.load sc (Rect.unit (s := S151936) (o.off (BitVec.ofNat 32 t)) S128.size (o.inb ⟨t, ht⟩)).toLoadRect (View.loadsAt_vmem pos128))
  rowGo out xs hc a (shapeCast S1x128 w (by decide)) (broadcast S8x128 (Scalar.addi o.v3 (BitVec.ofNat 32 t))) ht hN 12 0 rfl s

theorem cut256_0 : Cut 256 0 := by decide
theorem cut256_128 : Cut 256 128 := by decide
theorem cut128_0 : Cut 128 0 := by decide

theorem inb_w {t n m N : Nat} (ht : t + n ≤ N) (hN : N ≤ 60) (hn : m = 128 * n) : ∀ a, (![0, 128 * t] : Fin 2 → Nat) a + (S448xN m).size a ≤ S448x7680.size a := by
  intro a
  match a with
  | 0 => show 0 + 448 ≤ 448; omega
  | 1 => show 128 * t + m ≤ 7680; omega

/-- `m` blocks of two tiles, from tile `t` on. -/
def blocks (xp : FVec F S96x896 .bf16) (wt : Memref sig .tc .vmem S448x7680 .i8) (sc : Memref sig .tc .vmem S151936 .f32)
    (out : Memref sig .tc .vmem S96x1x7680 .f32) (xs : Memref sig .tc .vmem S96x128 .f32) {N : Nat} (hN : N ≤ 60) (o : Scales N) :
    (m t : Nat) → t + 2 * m ≤ N → Rows F 12 → Prog (TpuEff nD τ sig (Elt F) Λ .tc) (Rows F 12)
  | 0, _, _, s => pure s
  | m + 1, t, h, s => do
    let v : Vec F (S448xN 256) .i8 ← Prog.lift (.load wt (Rect.unit (s := S448x7680) ![0, 128 * t] (S448xN 256).size (inb_w (n := 2) (by omega) hN rfl)).toLoadRect (View.loadsAt_vmem pos448x256))
    let s ← tile sc out xs hN o cut256_0 (acc blk256 xp v) t (by omega) s
    let s ← tile sc out xs hN o cut256_128 (acc blk256 xp v) (t + 1) (by omega) s
    blocks xp wt sc out xs hN o m (t + 2) (by omega) s

/-- The row groups of one of the running arrays, loaded in order from group `k` on. -/
def loadRows {e : EltTy} (b : Memref sig .tc .vmem S96x128 e) {β : Type} :
    (m k : Nat) → k + m = 12 → ((Fin m → Vec F S8x128 e) → Prog (TpuEff nD τ sig (Elt F) Λ .tc) β) → Prog (TpuEff nD τ sig (Elt F) Λ .tc) β
  | 0, _, _, c => c Fin.elim0
  | m + 1, k, h, c => do
    let x : Vec F S8x128 e ← Prog.lift (.load b (Rect.unit (s := S96x128) ![8 * k, 0] S8x128.size (inb_rows h)).toLoadRect (View.loadsAt_vmem pos8x128))
    loadRows b m (k + 1) (next h) fun xs => c (Fin.cons x xs)

/-- Row groups of the three arrays put together. -/
def Rows.mk : (m : Nat) → (Fin m → FVec F S8x128 .f32) → (Fin m → FVec F S8x128 .f32) → (Fin m → IVec S8x128 32) → Rows F m
  | 0, _, _, _ => ⟨⟩
  | m + 1, a, b, c => (⟨a 0, b 0, c 0⟩, Rows.mk m (fun j => a j.succ) (fun j => b j.succ) (fun j => c j.succ))

/-- Storing one row group: the buffer's group is read, then written. -/
def storeRow {e : EltTy} (he : e.bits = 32) (b : Memref sig .tc .vmem S96x128 e) {k m : Nat} (h : k + (m + 1) = 12) (v : Vec F S8x128 e) :
    Prog (TpuEff nD τ sig (Elt F) Λ .tc) PUnit := do
  let _ : Vec F S8x128 e ← Prog.lift (.load b (Rect.unit (s := S96x128) ![8 * k, 0] S8x128.size (inb_rows h)).toLoadRect (View.loadsAt_vmem pos8x128))
  Prog.lift (.store b (Rect.unit (s := S96x128) ![8 * k, 0] S8x128.size (inb_rows h)) (shapeCast S8x128 v (by decide)) Finset.univ (View.stores_vmem_bits_univ pos8x128 he) (.inl rfl))

/-- The running arrays written back, from group `k` on. -/
def storeRows (b1 b2 : Memref sig .tc .vmem S96x128 .f32) (b3 : Memref sig .tc .vmem S96x128 .i32) :
    (m k : Nat) → k + m = 12 → Rows F m → Prog (TpuEff nD τ sig (Elt F) Λ .tc) PUnit
  | 0, _, _, _ => pure ⟨⟩
  | m + 1, k, h, (s, ss) => do
    storeRow rfl b1 h s.m1
    storeRow rfl b2 h s.m2
    storeRow rfl b3 h s.ix
    storeRows b1 b2 b3 m (k + 1) (next h) ss

/-- The tail of `m` blocks of two tiles: one last tile from a block of its own, or nothing. -/
def lastTile (xp : FVec F S96x896 .bf16) (wt : Memref sig .tc .vmem S448x7680 .i8) (sc : Memref sig .tc .vmem S151936 .f32)
    (out : Memref sig .tc .vmem S96x1x7680 .f32) (xs : Memref sig .tc .vmem S96x128 .f32) {N : Nat} (hN : N ≤ 60) (o : Scales N)
    (t : Nat) (ht : t < N) (s : Rows F 12) : Prog (TpuEff nD τ sig (Elt F) Λ .tc) (Rows F 12) := do
  let v : Vec F (S448xN 128) .i8 ← Prog.lift (.load wt (Rect.unit (s := S448x7680) ![0, 128 * t] (S448xN 128).size (inb_w (n := 1) (by omega) hN rfl)).toLoadRect (View.loadsAt_vmem pos448x128))
  tile sc out xs hN o cut128_0 (acc blk128 xp v) t ht s

/-- One grid step's pass over `2 m` tiles, and one more where `odd`. -/
def columns (xpb : Memref sig .tc .vmem S96x896 .bf16) (wt : Memref sig .tc .vmem S448x7680 .i8) (sc : Memref sig .tc .vmem S151936 .f32)
    (out : Memref sig .tc .vmem S96x1x7680 .f32) (xs : Memref sig .tc .vmem S96x128 .f32)
    (b1 b2 : Memref sig .tc .vmem S96x128 .f32) (b3 : Memref sig .tc .vmem S96x128 .i32) {N : Nat} (hN : N ≤ 60) (o : Scales N)
    (m : Nat) (odd : Bool) (hm : 2 * m + odd.toNat = N) : Prog (TpuEff nD τ sig (Elt F) Λ .tc) PUnit := do
  let xp : Vec F S96x896 .bf16 ← Prog.lift (.load xpb (Rect.unit (s := S96x896) ![0, 0] S96x896.size inb_codes).toLoadRect (View.loadsAt_vmem pos96x896))
  loadRows b1 12 0 rfl fun r1 => loadRows b2 12 0 rfl fun r2 => loadRows b3 12 0 rfl fun r3 => do
    let s ← blocks xp wt sc out xs hN o m 0 (by omega) (Rows.mk 12 r1 r2 r3)
    let s ← match odd, hm with
      | true, hm => lastTile xp wt sc out xs hN o (2 * m) (by simp at hm; omega) s
      | false, _ => pure s
    storeRows b1 b2 b3 12 0 rfl s

/-! ## The quantiser -/

/-- The activations widened. -/
def wide (x : FVec F S96x896 .bf16) : FVec F S96x896 .f32 := extf .f32 (shapeCast S96x896 x (by decide)) (by decide)

/-- Each row's scale: its largest absolute value over 127, or 1 where that value is not positive. -/
def scale (x : FVec F S96x896 .bf16) : FVec F S96x1 .f32 :=
  let a : FVec F S96x1 .f32 := shapeCast S96x1 (multiReduction .maximumf [1] S96 (absf (wide x)) 0xFF800000#32 (by decide) (.inl rfl) rfl) (by decide)
  select (cmpf .ogt a (broadcast S96x1 (Scalar.ofBits .f32 0x00000000#32))) (divf a (broadcast S96x1 (Scalar.ofBits .f32 0x42FE0000#32)))
    (broadcast S96x1 (Scalar.ofBits .f32 0x3F800000#32))

/-- The codes as floats: the row over its scale, rounded to even, clipped to ±127. -/
def codesF (x : FVec F S96x896 .bf16) : FVec F S96x896 .f32 :=
  minimumf (broadcast S96x896 (Scalar.ofBits .f32 0x42FE0000#32))
    (maximumf (broadcast S96x896 (Scalar.ofBits .f32 0xC2FE0000#32)) (roundeven (divf (wide x) (broadcastTo S96x896 (scale x) (by decide)))))

/-- Each row's scale, repeated along 128 lanes. -/
def scaleWide (x : FVec F S96x896 .bf16) : FVec F S96x128 .f32 := broadcastTo S96x128 (shapeCast S96x1 (scale x) (by decide)) (by decide)

/-- A column repeated along the lanes, turned, and its first row taken: the column as a row. -/
def turned (v : FVec F S96x128 .f32) : FVec F S1x96 .f32 :=
  extractStridedSlice S1x96 ![0, 0] (transpose S128x96 [1, 0] v (by decide)) (by decide)

/-- The 0/1 matrix that interleaves each group of 32 columns: column `2k` takes code `k`, column `2k + 1` code `16 + k`. -/
def interleave : FVec F S128x128 .bf16 :=
  let src : IVec S128x128 32 := iota .tc S128x128 32 [0] (by decide)
  let dst : IVec S128x128 32 := iota .tc S128x128 32 [1] (by decide)
  let want : IVec S128x128 32 := ori (ori (andi dst (broadcast S128x128 4294967264#32)) (shli (andi dst (broadcast S128x128 1#32)) (broadcast S128x128 4#32)))
    (andi (shrsi dst (broadcast S128x128 1#32)) (broadcast S128x128 15#32))
  truncf .bf16 (select (cmpi .eq src want) (broadcast S128x128 (Scalar.ofBits .f32 0x3F800000#32)) (broadcast S128x128 (Scalar.ofBits .f32 0x00000000#32))) (by decide)

/-- Rows of codes against the interleaving matrix. -/
def dimsPerm : DotDims S96x128 S128x128 S96x128 where
  lhsContracting := [1]
  rhsContracting := [0]
  lhsNonContracting := [0]
  rhsNonContracting := [1]
  lhsBatch := []
  rhsBatch := []
  wf := by decide

theorem inb_chunk {c m : Nat} (h : c + (m + 1) = 7) : ∀ a, (![0, 128 * c] : Fin 2 → Nat) a + S96x128.size a ≤ S96x896.size a := by
  intro a
  match a with
  | 0 => show 0 + 96 ≤ 96; omega
  | 1 => show 128 * c + 128 ≤ 896; omega

theorem slices_chunk {c m : Nat} (h : c + (m + 1) = 7) : S96x896.Slices ![0, 128 * c] S96x128 := by
  have : c < 7 := by omega
  have hh : ∀ c : Fin 7, S96x896.Slices ![0, 128 * c.val] S96x128 := by decide
  exact hh ⟨c, this⟩

theorem inb_chunk7 (c : Fin 7) : ∀ a, (![0, 128 * c.val] : Fin 2 → Nat) a + S96x128.size a ≤ S96x896.size a :=
  inb_chunk (m := 6 - c.val) (by omega)

theorem packed_chunk7 : ∀ c : Fin 7, (Rect.unit (s := S96x896) ![0, 128 * c.val] S96x128.size (inb_chunk7 c)).PackedRows (EltTy.packing .bf16) := by decide

theorem packed_chunk {c m : Nat} (h : c + (m + 1) = 7) :
    (Rect.unit (s := S96x896) ![0, 128 * c] S96x128.size (inb_chunk h)).PackedRows (EltTy.packing .bf16) :=
  packed_chunk7 ⟨c, by omega⟩

theorem packed_codes : (Rect.unit (s := S96x896) ![0, 0] S96x896.size inb_codes).PackedRows (EltTy.packing .i8) := by decide

/-- One chunk of 128 interleaved codes. -/
def chunk (x : FVec F S96x896 .bf16) {c m : Nat} (h : c + (m + 1) = 7) : FVec F S96x128 .bf16 :=
  truncf .bf16 (matmul dimsPerm none (extractStridedSlice S96x128 ![0, 128 * c] (truncf .bf16 (codesF x) (by decide) : FVec F S96x896 .bf16) (slices_chunk h)) interleave
    (constant S96x128 .f32 0x00000000#32)) (by decide)

/-- The interleaved codes, stored by chunks of 128 columns. -/
def chunks (xpb : Memref sig .tc .vmem S96x896 .bf16) (hxpb : xpb.IsWhole) (x : FVec F S96x896 .bf16) :
    (m c : Nat) → c + m = 7 → Prog (TpuEff nD τ sig (Elt F) Λ .tc) PUnit
  | 0, _, _ => pure ⟨⟩
  | m + 1, c, h => do
    let _ : Vec F S96x128 .bf16 ← Prog.lift (.load xpb (Rect.unit (s := S96x896) ![0, 128 * c] S96x128.size (inb_chunk h)).toLoadRect (View.loadsAt_vmem pos96x128))
    Prog.lift (.store xpb (Rect.unit (s := S96x896) ![0, 128 * c] S96x128.size (inb_chunk h)) (shapeCast S96x128 (chunk x h) (by decide)) Finset.univ (View.stores_vmem pos96x128 (hxpb.storeExact_slice rfl _ (packed_chunk h)) (fun _ => rfl)) (.inl rfl))
    chunks xpb hxpb x m (c + 1) (by omega)

/-- A running array set to one value. -/
def reset {e : EltTy} (he : e.bits = 32) (b : Memref sig .tc .vmem S96x128 e) (v : Vec F S96x128 e) : Prog (TpuEff nD τ sig (Elt F) Λ .tc) PUnit := do
  let _ : Vec F S96x128 e ← Prog.lift (.load b (Rect.unit (s := S96x128) ![0, 0] S96x128.size inb_run).toLoadRect (View.loadsAt_vmem pos96x128))
  Prog.lift (.store b (Rect.unit (s := S96x128) ![0, 0] S96x128.size inb_run) (shapeCast S96x128 v (by decide)) Finset.univ (View.stores_vmem_bits_univ pos96x128 he) (.inl rfl))

/-- A row of results stored. -/
def putRow {e : EltTy} (he : e.bits = 32) (b : Memref sig .tc .vmem S1x96 e) (v : Vec F S1x96 e) : Prog (TpuEff nD τ sig (Elt F) Λ .tc) PUnit := do
  let _ : Vec F S1x96 e ← Prog.lift (.load b (Rect.unit (s := S1x96) ![0, 0] S1x96.size inb_row).toLoadRect (View.loadsAt_vmem pos1x96))
  Prog.lift (.store b (Rect.unit (s := S1x96) ![0, 0] S1x96.size inb_row) v Finset.univ (View.stores_vmem_bits_univ pos1x96 he) (.inl rfl))

/-- The first grid step's work: the codes, the scales, the interleaved codes, and the running arrays at their start. -/
def quantise (xb : Memref sig .tc .vmem S96x896 .bf16) (codes : Memref sig .tc .vmem S96x896 .i8) (hcodes : codes.IsWhole)
    (scales : Memref sig .tc .vmem S1x96 .f32) (xpb : Memref sig .tc .vmem S96x896 .bf16) (hxpb : xpb.IsWhole) (xs : Memref sig .tc .vmem S96x128 .f32)
    (b1 b2 : Memref sig .tc .vmem S96x128 .f32) (b3 : Memref sig .tc .vmem S96x128 .i32) : Prog (TpuEff nD τ sig (Elt F) Λ .tc) PUnit := do
  let x : Vec F S96x896 .bf16 ← Prog.lift (.load xb (Rect.unit (s := S96x896) ![0, 0] S96x896.size inb_codes).toLoadRect (View.loadsAt_vmem pos96x896))
  let _ : Vec F S96x896 .i8 ← Prog.lift (.load codes (Rect.unit (s := S96x896) ![0, 0] S96x896.size inb_codes).toLoadRect (View.loadsAt_vmem pos96x896))
  Prog.lift (.store codes (Rect.unit (s := S96x896) ![0, 0] S96x896.size inb_codes) (fptosi 8 (codesF x)) Finset.univ (View.stores_vmem pos96x896 (hcodes.storeExact_slice rfl _ packed_codes) (fun _ => rfl)) (.inl rfl))
  reset rfl xs (scaleWide x)
  putRow rfl scales (turned (scaleWide x))
  chunks xpb hxpb x 7 0 rfl
  reset rfl b1 (broadcast S96x128 (Scalar.ofBits .f32 0xFF800000#32))
  reset rfl b2 (broadcast S96x128 (Scalar.ofBits .f32 0xFF800000#32))
  reset rfl b3 (broadcast S96x128 0#32)

/-! ## The last step -/

/-- Each row's best score, over the lanes. -/
def topCol (m1 : FVec F S96x128 .f32) : FVec F S96x1 .f32 :=
  shapeCast S96x1 (multiReduction .maximumf [1] S96 m1 0xFF800000#32 (by decide) (.inl rfl) rfl) (by decide)

/-- The column at which each lane met its best score. -/
def bestCol (ix : IVec S96x128 32) : IVec S96x128 32 := addi (muli ix (broadcast S96x128 128#32)) (iota .tc S96x128 32 [1] (by decide))

/-- Each row's token: the least column that met the row's best score. -/
def tokCol (m1 : FVec F S96x128 .f32) (ix : IVec S96x128 32) : IVec S96x1 32 :=
  shapeCast S96x1 (multiReductionI .minsi [1] S96
    (select (cmpf .oeq m1 (broadcastTo S96x128 (topCol m1) (by decide))) (bestCol ix) (broadcast S96x128 1073741824#32)) 2147483647#32 (by decide) rfl) (by decide)

/-- Each row's second score: the token's lane gives its second best, the others their best. -/
def secondCol (m1 m2 : FVec F S96x128 .f32) (ix : IVec S96x128 32) : FVec F S96x1 .f32 :=
  shapeCast S96x1 (multiReduction .maximumf [1] S96
    (select (cmpi .eq (bestCol ix) (broadcastTo S96x128 (tokCol m1 ix) (by decide))) m2 m1) 0xFF800000#32 (by decide) (.inl rfl) rfl) (by decide)

/-- A column as a row. -/
def asRow (v : FVec F S96x1 .f32) : FVec F S1x96 .f32 := turned (broadcastTo S96x128 (shapeCast S96x1 v (by decide)) (by decide))

/-- The last grid step's work: tokens, margins and best scores from the running arrays. -/
def finish (b1 b2 : Memref sig .tc .vmem S96x128 .f32) (b3 : Memref sig .tc .vmem S96x128 .i32)
    (tok : Memref sig .tc .vmem S1x96 .i32) (margin top : Memref sig .tc .vmem S1x96 .f32) : Prog (TpuEff nD τ sig (Elt F) Λ .tc) PUnit := do
  let m1 : Vec F S96x128 .f32 ← Prog.lift (.load b1 (Rect.unit (s := S96x128) ![0, 0] S96x128.size inb_run).toLoadRect (View.loadsAt_vmem pos96x128))
  let ix : Vec F S96x128 .i32 ← Prog.lift (.load b3 (Rect.unit (s := S96x128) ![0, 0] S96x128.size inb_run).toLoadRect (View.loadsAt_vmem pos96x128))
  let m2 : Vec F S96x128 .f32 ← Prog.lift (.load b2 (Rect.unit (s := S96x128) ![0, 0] S96x128.size inb_run).toLoadRect (View.loadsAt_vmem pos96x128))
  putRow rfl tok (fptosi 32 (asRow (F := F) (sitofp .f32 (tokCol (F := F) m1 ix))))
  putRow rfl margin (asRow (subf (topCol m1) (secondCol m1 m2 ix)))
  putRow rfl top (asRow (topCol m1))

/-- One grid step: `c1` at the first, `c2` at every step but the last, `c3` at the last. -/
def body (c1 c2 c3 : BitVec 1) (o2 : c2 = 1#1 → Scales 60) (o3 : c3 = 1#1 → Scales 47)
    (xb : Memref sig .tc .vmem S96x896 .bf16) (wt : Memref sig .tc .vmem S448x7680 .i8) (sc : Memref sig .tc .vmem S151936 .f32)
    (tok : Memref sig .tc .vmem S1x96 .i32) (margin top : Memref sig .tc .vmem S1x96 .f32) (out : Memref sig .tc .vmem S96x1x7680 .f32)
    (codes : Memref sig .tc .vmem S96x896 .i8) (hcodes : codes.IsWhole) (scales : Memref sig .tc .vmem S1x96 .f32)
    (xpb : Memref sig .tc .vmem S96x896 .bf16) (hxpb : xpb.IsWhole) (xs b1 b2 : Memref sig .tc .vmem S96x128 .f32)
    (b3 : Memref sig .tc .vmem S96x128 .i32) : Prog (TpuEff nD τ sig (Elt F) Λ .tc) PUnit := do
  if c1 = 1#1 then quantise xb codes hcodes scales xpb hxpb xs b1 b2 b3 else pure ⟨⟩
  if h : c2 = 1#1 then columns xpb wt sc out xs b1 b2 b3 (Nat.le_refl 60) (o2 h) 30 false rfl else pure ⟨⟩
  if h : c3 = 1#1 then do
    columns xpb wt sc out xs b1 b2 b3 (by decide : 47 ≤ 60) (o3 h) 23 true rfl
    finish b1 b2 b3 tok margin top
  else pure ⟨⟩
  pure ⟨⟩

end Head

end
-- ==== Proof.Head.Rules.lean ====
/-
  What a load and a store do to a memref that is owned with known contents.
-/
module

public import proofs.«01_k».proof.Proof.Head.Program
public import Idealize.ShloMosaic.Lib.Memref
public import Idealize.ShloMosaic.Lib.Tactic

@[expose] public section

noncomputable section

namespace Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable {defs : Defs nD τ sig Val Λ} (𝒱 : Variants) (c : Dev nD) (E : Set ℕ) {α : Type}

/-- A load of an owned memref reads its contents at the load's coordinates and keeps it. -/
theorem load_owned {cs : CoreSpace} {s : Shape} {e : EltTy} {M : Memref sig .tc cs s e} {r : LoadRect s} {hl : M.view.LoadsAt r}
    {k : (r.shape.Idx → Val e) → Prog (TpuEff nD τ sig Val Λ .tc) α} {q : PosShare TreeShare} {X : s.Idx → Val e} {Q : α → sProp 𝕄} :
    iprop(owns (c : Thread nD τ) M q X ∗ (owns (c : Thread nD τ) M q X -∗ wp frame (wpE defs 𝒱 c none) E (k fun i => X (r.idx i)) Q))
      ⊢ (wp frame (wpE defs 𝒱 c none) E (.op (.load M r hl) k) Q : sProp 𝕄) := by
  unfold owns
  iintro ⟨⟨%f, %hf, H⟩, Hk⟩
  iapply (wp_load 𝒱 (c : Thread nD τ) none E (m := M) (r := r) (hl := hl) (k := k) (S := M.view.set) (q := q) (f := f)
    (View.setOn_subset_set _ _)) $$ H
  iintro H
  have e : M.view.readAt Val r f = fun i => X (r.idx i) := by subst hf; rfl
  rw [e]
  iapply Hk
  iexists f; isplitr; · ipureintro; exact hf
  iexact H

/-- A load of an owned memref whose contents at the load's coordinates are `Z`. -/
theorem load_known {cs : CoreSpace} {s : Shape} {e : EltTy} {M : Memref sig .tc cs s e} {r : LoadRect s} {hl : M.view.LoadsAt r}
    {k : (r.shape.Idx → Val e) → Prog (TpuEff nD τ sig Val Λ .tc) α} {q : PosShare TreeShare} {X : s.Idx → Val e} {Q : α → sProp 𝕄}
    {Z : r.shape.Idx → Val e} (hZ : (fun i => X (r.idx i)) = Z) :
    iprop(owns (c : Thread nD τ) M q X ∗ (owns (c : Thread nD τ) M q X -∗ wp frame (wpE defs 𝒱 c none) E (k Z) Q))
      ⊢ (wp frame (wpE defs 𝒱 c none) E (.op (.load M r hl) k) Q : sProp 𝕄) :=
  hZ ▸ load_owned 𝒱 c E

/-- An unmasked store to an owned memref changes its contents on the store's rectangle to the payload, and nowhere else. -/
theorem store_owned {cs : CoreSpace} {s : Shape} {e : EltTy} {M : Memref sig .tc cs s e} {r : Rect s} {w : r.shape.Idx → Val e}
    {hx : (M.access r).Stores Finset.univ} {hm : (Finset.univ : Finset r.shape.Idx) = Finset.univ ∨ ∀ a, r.stride a = 1}
    {k : PUnit → Prog (TpuEff nD τ sig Val Λ .tc) α} {X X' : s.Idx → Val e} {Q : α → sProp 𝕄}
    (hin : ∀ x, X' (r.emb x) = w x) (hout : ∀ y, (∀ x, r.emb x ≠ y) → X' y = X y) :
    iprop(owns (c : Thread nD τ) M fullShare X ∗ (owns (c : Thread nD τ) M fullShare X' -∗ wp frame (wpE defs 𝒱 c none) E (k ⟨⟩) Q))
      ⊢ (wp frame (wpE defs 𝒱 c none) E (.op (.store M r w Finset.univ hx hm) k) Q : sProp 𝕄) := by
  unfold owns
  iintro ⟨⟨%f, %hf, H⟩, Hk⟩
  iapply (wp_store 𝒱 (c : Thread nD τ) none E (m := M) (r := r) (w := w) (Mk := Finset.univ) (hx := hx) (hm := hm) (k := k)
    (S := M.view.set) (f := f) (by
      intro i hi
      obtain ⟨x, -, rfl⟩ := Finset.mem_map.mp hi
      exact M.view.emb_mem_set (r.emb x))) $$ H
  iintro H
  iapply Hk
  iexists ((M.access r).write Val f w Finset.univ); isplitr
  · ipureintro
    funext y
    by_cases hy : ∃ x, r.emb x = y
    · obtain ⟨x, rfl⟩ := hy
      rw [hin]
      exact View.read_slice_write_emb (v := M.view) r f w (Finset.mem_univ x)
    · have hn : ∀ x, r.emb x ≠ y := fun x hx => hy ⟨x, hx⟩
      rw [hout y hn, ← hf]
      refine View.read_slice_write_of_not_mem (v := M.view) r f w Finset.univ ?_
      intro hm
      obtain ⟨x, -, hx⟩ := Finset.mem_map.mp hm
      exact hn x hx
  · iexact H

/-- A finished program meets its postcondition. -/
theorem ret_owned {a : α} {Q : α → sProp 𝕄} : Q a ⊢ (wp frame (wpE defs 𝒱 (c : Thread nD τ) none) E (.ret a) Q : sProp 𝕄) :=
  le_wp_ret _ _ _ a Q

/-- A program followed by another runs the first to where the second takes over. -/
theorem bind_owned {β : Type} {p : Prog (TpuEff nD τ sig Val Λ .tc) α} {k : α → Prog (TpuEff nD τ sig Val Λ .tc) β} {Q : β → sProp 𝕄} :
    wp frame (wpE defs 𝒱 (c : Thread nD τ) none) E p (fun a => wp frame (wpE defs 𝒱 (c : Thread nD τ) none) E (k a) Q)
      ⊢ (wp frame (wpE defs 𝒱 (c : Thread nD τ) none) E (p >>= k) Q : sProp 𝕄) := by
  rw [wp_bind]

end Head

end
-- ==== Proof.Head.Spec.lean ====
/-
  What one pass over a block of vocabulary columns computes, as functions of whole arrays: the scaled scores of each
  tile of 128 columns, the running arrays after each tile, and the block of logits.
-/
module

public import proofs.«01_k».proof.Proof.Head.Program
public import Idealize.ShloMosaic.Lib.ValueIdxCore

@[expose] public section

noncomputable section

namespace Head

open Idealize.ShloMosaic Idealize.ShloMosaic.ValueIdx

variable {F : FTy → Type} [FloatOps F]

/-- The three running arrays: best score, second score and tile of the best, per row and lane. -/
structure Run (F : FTy → Type) where
  m1 : FVec F S96x128 .f32
  m2 : FVec F S96x128 .f32
  ix : IVec S96x128 32

/-- The running arrays after a tile numbered `T` with scores `y`. -/
def Run.step (s : Run F) (T : BitVec 32) (y : FVec F S96x128 .f32) : Run F where
  m1 := maximumf s.m1 y
  m2 := maximumf s.m2 (minimumf s.m1 y)
  ix := select (cmpf .ogt y s.m1) (broadcast S96x128 T) s.ix

/-- The running arrays after the `n` tiles from `t` on. -/
def Run.after (T : Nat → BitVec 32) (Y : Nat → FVec F S96x128 .f32) : (n t : Nat) → Run F → Run F
  | 0, _, s => s
  | n + 1, t, s => Run.after T Y n (t + 1) (s.step (T t) (Y t))

/-- The running arrays after `n` tiles and one more. -/
theorem Run.after_succ (T : Nat → BitVec 32) (Y : Nat → FVec F S96x128 .f32) (n t : Nat) (s : Run F) :
    Run.after T Y (n + 1) t s = (Run.after T Y n t s).step (T (t + n)) (Y (t + n)) := by
  induction n generalizing t s with
  | zero => rfl
  | succ n ih => exact (ih (t + 1) _).trans (by rw [show t + 1 + n = t + (n + 1) by omega]; rfl)

/-- The running arrays after `a` tiles and then `b` more. -/
theorem Run.after_add (T : Nat → BitVec 32) (Y : Nat → FVec F S96x128 .f32) (a b t : Nat) (s : Run F) :
    Run.after T Y (a + b) t s = Run.after T Y b (t + a) (Run.after T Y a t s) := by
  induction a generalizing t s with
  | zero => rw [Nat.zero_add, Nat.add_zero]; rfl
  | succ a ih => rw [show a + 1 + b = (a + b) + 1 by omega]; exact (ih (t + 1) _).trans (by rw [show t + 1 + a = t + (a + 1) by omega]; rfl)

/-- The logits block once tiles `a` to `b - 1` are in it. -/
def put (Y : Nat → FVec F S96x128 .f32) (a b : Nat) (O : Vec F S96x1x7680 .f32) : Vec F S96x1x7680 .f32 := fun z =>
  if a ≤ (z 2).val / 128 ∧ (z 2).val / 128 < b then Y ((z 2).val / 128) (ix2 (z 0) ⟨(z 2).val % 128, Nat.mod_lt _ (by decide)⟩) else O z

/-- The logits block once tile `t`'s row groups from `k` on are in it. -/
def putRows (y : FVec F S96x128 .f32) (k t : Nat) (O : Vec F S96x1x7680 .f32) : Vec F S96x1x7680 .f32 := fun z =>
  if 8 * k ≤ (z 0).val ∧ (z 2).val / 128 = t then y (ix2 (z 0) ⟨(z 2).val % 128, Nat.mod_lt _ (by decide)⟩) else O z

theorem put_self (Y : Nat → FVec F S96x128 .f32) (a : Nat) (O : Vec F S96x1x7680 .f32) : put Y a a O = O := by
  funext z; unfold put; rw [if_neg (by omega)]

theorem put_put (Y : Nat → FVec F S96x128 .f32) {a b c : Nat} (h : a ≤ b) (h' : b ≤ c) (O : Vec F S96x1x7680 .f32) :
    put Y b c (put Y a b O) = put Y a c O := by
  funext z; unfold put
  by_cases h1 : b ≤ (z 2).val / 128 ∧ (z 2).val / 128 < c
  · rw [if_pos h1, if_pos ⟨by omega, h1.2⟩]
  · rw [if_neg h1]
    by_cases h2 : a ≤ (z 2).val / 128 ∧ (z 2).val / 128 < b
    · rw [if_pos h2, if_pos ⟨h2.1, by omega⟩]
    · rw [if_neg h2, if_neg (by omega)]

theorem putRows_zero (Y : Nat → FVec F S96x128 .f32) (t : Nat) (O : Vec F S96x1x7680 .f32) : putRows (Y t) 0 t O = put Y t (t + 1) O := by
  funext z; unfold put putRows
  by_cases h : (z 2).val / 128 = t
  · rw [if_pos ⟨by omega, h⟩, if_pos ⟨by omega, by omega⟩, h]
  · rw [if_neg (fun h' => h h'.2), if_neg (by omega)]

theorem putRows_full (y : FVec F S96x128 .f32) (t : Nat) (O : Vec F S96x1x7680 .f32) : putRows y 12 t O = O := by
  funext z; unfold putRows
  have : (z 0).val < 96 := (z 0).isLt
  rw [if_neg (by omega)]

/-- Where tile lane `i` lies in a block of `n` columns, from column `l` on. -/
def lane {n l : Nat} (h : l + 128 ≤ n) (i : S96x128.Idx) : (S96xN n).Idx :=
  ix2 (i 0) ⟨l + (i 1).val, by have : (i 1).val < 128 := (i 1).isLt; omega⟩

/-- One tile's scores: the dot products times the row's scale, times the column's scale. -/
def scaled {n l : Nat} (h : l + 128 ≤ n) (a : FVec F (S96xN n) .f32) (xs : FVec F S96x128 .f32) (ws : FVec F S1x128 .f32) : FVec F S96x128 .f32 :=
  fun i => FloatOps.mulf (FloatOps.mulf (a (lane h i)) (xs i)) (ws (ix2 0 (i 1)))

/-- `n` columns of the weight block, from column `o` on. -/
def cols (n o : Nat) (W : Vec F S448x7680 .i8) : Vec F (S448xN n) .i8 := fun j => W (ix2 (j 0) ⟨(o + (j 1).val) % 7680, Nat.mod_lt _ (by decide)⟩)

/-- A tile's column scales, from position `o` on. -/
def scalesAt (o : Nat) (S : Vec F S151936 .f32) : FVec F S1x128 .f32 := fun j => S (ix1 ⟨(o + (j 1).val) % 151936, Nat.mod_lt _ (by decide)⟩)

/-- The scores of tile `t` of a block of tiles worked two at a time. -/
def pairTile (XP : FVec F S96x896 .bf16) (W : Vec F S448x7680 .i8) (XS : FVec F S96x128 .f32) (S : Vec F S151936 .f32) (o : Nat → Nat) (t : Nat) :
    FVec F S96x128 .f32 :=
  scaled (l := 128 * (t % 2)) (by omega) (acc blk256 XP (cols 256 (128 * (2 * (t / 2))) W)) XS (scalesAt (o t) S)

/-- The scores of tile `t` worked alone. -/
def loneTile (XP : FVec F S96x896 .bf16) (W : Vec F S448x7680 .i8) (XS : FVec F S96x128 .f32) (S : Vec F S151936 .f32) (o : Nat → Nat) (t : Nat) :
    FVec F S96x128 .f32 :=
  scaled (l := 0) (by omega) (acc blk128 XP (cols 128 (128 * t) W)) XS (scalesAt (o t) S)

/-- The scores of tile `t` of a block of `2 m` tiles, and one more where there is one. -/
def blockTile (XP : FVec F S96x896 .bf16) (W : Vec F S448x7680 .i8) (XS : FVec F S96x128 .f32) (S : Vec F S151936 .f32) (o : Nat → Nat) (m t : Nat) :
    FVec F S96x128 .f32 :=
  if t < 2 * m then pairTile XP W XS S o t else loneTile XP W XS S o t

/-- A row group of a whole array. -/
def rowAt {α : Type} (X : S96x128.Idx → α) {k m : Nat} (h : k + (m + 1) = 12) : S8x128.Idx → α := fun j =>
  X ((Rect.unit (s := S96x128) ![8 * k, 0] S8x128.size (inb_rows h)).toLoadRect.idx j)

/-- The row groups of the running arrays, from group `k` on. -/
def Rows.of (s : Run F) : (m k : Nat) → k + m = 12 → Rows F m
  | 0, _, _ => ⟨⟩
  | m + 1, k, h => (⟨rowAt s.m1 h, rowAt s.m2 h, rowAt s.ix h⟩, Rows.of s m (k + 1) (next h))

/-- The row groups of one array, from group `k` on. -/
def rowsAt {α : Type} (X : S96x128.Idx → α) : (m k : Nat) → k + m = 12 → Fin m → S8x128.Idx → α
  | 0, _, _ => Fin.elim0
  | m + 1, k, h => Fin.cons (rowAt X h) (rowsAt X m (k + 1) (next h))

theorem Rows.mk_rowsAt (s : Run F) : (m k : Nat) → (h : k + m = 12) →
    Rows.mk m (rowsAt s.m1 m k h) (rowsAt s.m2 m k h) (rowsAt s.ix m k h) = Rows.of s m k h
  | 0, _, _ => rfl
  | m + 1, k, h => Prod.ext rfl (Rows.mk_rowsAt s m (k + 1) (next h))

/-- A row group's step is the row group of the step. -/
theorem rowAt_step (s : Run F) (T : BitVec 32) (y : FVec F S96x128 .f32) {k m : Nat} (h : k + (m + 1) = 12) :
    Row.step ⟨rowAt s.m1 h, rowAt s.m2 h, rowAt s.ix h⟩ (broadcast S8x128 T) (rowAt y h)
      = ⟨rowAt (s.step T y).m1 h, rowAt (s.step T y).m2 h, rowAt (s.step T y).ix h⟩ := rfl

/-- A row group of the scaled scores, as the pass computes it. -/
theorem rowAt_scaled {n l : Nat} (hl : l + 128 ≤ n) (hc : Cut n l) (a : FVec F (S96xN n) .f32) (XS : FVec F S96x128 .f32) (ws : FVec F S1x128 .f32)
    {k m : Nat} (h : k + (m + 1) = 12) (hb : S1x128.Broadcasts S8x128) :
    mulf (mulf (extractStridedSlice S8x128 ![8 * k, l] a (hc k (by omega))) (rowAt XS h)) (broadcastTo S8x128 ws hb) = rowAt (scaled hl a XS ws) h := by
  funext j
  show FloatOps.mulf (FloatOps.mulf (a _) (XS _)) (ws _) = FloatOps.mulf (FloatOps.mulf (a _) (XS _)) (ws _)
  congr 1
  · congr 1
    congr 1
    funext d
    match d with
    | 0 => exact Fin.ext (show 8 * k + (j 0).val = 8 * k + 1 * (j 0).val by omega)
    | 1 => exact Fin.ext (show l + (j 1).val = l + (0 + 1 * (j 1).val) by omega)
  · congr 1
    funext d
    match d with
    | 0 => exact Fin.ext rfl
    | 1 => exact Fin.ext (show (j 1).val = 0 + 1 * (j 1).val by omega)

theorem pairTile_even (XP : FVec F S96x896 .bf16) (W : Vec F S448x7680 .i8) (XS : FVec F S96x128 .f32) (S : Vec F S151936 .f32) (o : Nat → Nat) {t : Nat}
    (ht : t % 2 = 0) : pairTile XP W XS S o t = scaled (n := 256) (l := 0) (by omega) (acc blk256 XP (cols 256 (128 * t) W)) XS (scalesAt (o t) S) := by
  funext i
  unfold pairTile scaled lane
  simp only [ht, show 2 * (t / 2) = t by omega]

theorem pairTile_odd (XP : FVec F S96x896 .bf16) (W : Vec F S448x7680 .i8) (XS : FVec F S96x128 .f32) (S : Vec F S151936 .f32) (o : Nat → Nat) {t : Nat}
    (ht : t % 2 = 0) : pairTile XP W XS S o (t + 1) = scaled (n := 256) (l := 128) (by omega) (acc blk256 XP (cols 256 (128 * t) W)) XS (scalesAt (o (t + 1)) S) := by
  funext i
  unfold pairTile scaled lane
  simp only [show (t + 1) % 2 = 1 by omega, show 2 * ((t + 1) / 2) = t by omega]

/-- Columns loaded from a block that holds `W` on its first `128 N` columns are `W`'s. -/
theorem cols_load {n t N q : Nat} (ht : t + q ≤ N) (hN : N ≤ 60) (hq : n = 128 * q) (Wb W : Vec F S448x7680 .i8)
    (hW : ∀ j : S448x7680.Idx, (j 1).val < 128 * N → Wb j = W j)
    (inb : ∀ a, (![0, 128 * t] : Fin 2 → Nat) a + (S448xN n).size a ≤ S448x7680.size a) :
    (fun i => Wb ((Rect.unit (s := S448x7680) ![0, 128 * t] (S448xN n).size inb).toLoadRect.idx i) : Vec F (S448xN n) .i8) = cols n (128 * t) W := by
  funext j
  have h1 : (j 1).val < n := (j 1).isLt
  refine (hW _ (show 128 * t + 1 * (j 1).val < 128 * N by omega)).trans ?_
  unfold cols
  refine congrArg W (funext fun d => ?_)
  match d with
  | 0 => exact Fin.ext (show 0 + 1 * (j 0).val = (j 0).val by omega)
  | 1 => exact Fin.ext (show 128 * t + 1 * (j 1).val = (128 * t + (j 1).val) % 7680 by omega)

/-- An array whose row groups from `k` on are `A`'s and whose others are `B`'s. -/
def mixed {α : Type} (A B : S96x128.Idx → α) (k : Nat) : S96x128.Idx → α := fun i => if 8 * k ≤ (i 0).val then A i else B i

theorem mixed_zero {α : Type} (A B : S96x128.Idx → α) : mixed A B 0 = A := by
  funext i; unfold mixed; rw [if_pos (by omega)]

theorem mixed_full {α : Type} (A B : S96x128.Idx → α) : mixed A B 12 = B := by
  funext i; unfold mixed
  have : (i 0).val < 96 := (i 0).isLt
  rw [if_neg (by omega)]

end Head

end
-- ==== Proof.Head.Columns.lean ====
/-
  One grid step's pass over its columns, run: from buffers owned with known contents to the contents `Spec` names.
-/
module

public import proofs.«01_k».proof.Proof.Head.Rules
public import proofs.«01_k».proof.Proof.Head.Spec
public import Idealize.ShloMosaic.Lib.ValueLayoutCasts

@[expose] public section

noncomputable section

namespace Head

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {U : Type} [URA U] {Λ : Labels}

local notation "𝕄" => MT nD τ sig Unit (Elt F) ℕ U ℕ

variable {defs : Defs nD τ sig (Elt F) Λ} (𝒱 : Variants) (c : Dev nD) (E : Set ℕ)

/-- A memref of core `c` owned whole with contents `X`. -/
abbrev has {cs : CoreSpace} {s : Shape} {e : EltTy} (M : Memref sig .tc cs s e) (X : s.Idx → Elt F e) : sProp 𝕄 :=
  owns (c : Thread nD τ) M fullShare X

/-- An 8 x 128 group stored as 8 x 1 x 128. -/
theorem cast_group {α : Type} (x : S8x128.Idx → α) (h : S8x128.ShapeCasts S8x1x128) (j : S8x1x128.Idx) :
    shapeCast S8x1x128 x h j = x (ix2 (j 0) (j 2)) :=
  shapeCast_apply x h _ _ (by
    rw [Shape.rowMajor_val_two, Shape.rowMajor_val_three]
    have h1 : (j 1).val = 0 := by have : (j 1).val < 1 := (j 1).isLt; omega
    show (j 0).val * 128 + (j 2).val = ((j 0).val * 1 + (j 1).val) * 128 + (j 2).val
    omega)

/-- A cast to the same shape changes nothing. -/
theorem cast_same {α : Type} {s : Shape} (x : s.Idx → α) (h : s.ShapeCasts s) : shapeCast s x h = x :=
  funext fun j => congrArg x (Shape.reshapeEquiv_self h j)

/-- An index outside a group's rectangle of the logits block is outside its rows or outside its tile. -/
theorem not_in_group {k m t N : Nat} (h : k + (m + 1) = 12) (ht : t < N) (hN : N ≤ 60) (z : S96x1x7680.Idx)
    (hz : ∀ x, (Rect.unit (s := S96x1x7680) ![8 * k, 0, 128 * t] S8x1x128.size (inb_out h ht hN)).emb x ≠ z) :
    ¬((8 * k ≤ (z 0).val ∧ (z 0).val < 8 * k + 8) ∧ (z 2).val / 128 = t) := by
  rintro ⟨⟨h0, h0'⟩, h2⟩
  refine hz (ix3 ⟨(z 0).val - 8 * k, by omega⟩ 0 ⟨(z 2).val % 128, Nat.mod_lt _ (by decide)⟩) ?_
  funext a
  match a with
  | 0 => exact Fin.ext (show 8 * k + 1 * ((z 0).val - 8 * k) = (z 0).val by omega)
  | 1 => exact Fin.ext (show 0 + 1 * 0 = (z 1).val by have : (z 1).val < 1 := (z 1).isLt; omega)
  | 2 => exact Fin.ext (show 128 * t + 1 * ((z 2).val % 128) = (z 2).val by omega)

/-- The row groups of a tile are scaled, stored and folded into the running arrays. -/
theorem rowGo_spec {out : Memref sig .tc .vmem S96x1x7680 .f32} {xs : Memref sig .tc .vmem S96x128 .f32} {n l : Nat}
    (hl : l + 128 ≤ n) (hc : Cut n l) (a : FVec F (S96xN n) .f32) (ws : FVec F S1x128 .f32) (T : BitVec 32) {t N : Nat} (ht : t < N) (hN : N ≤ 60)
    (XS : FVec F S96x128 .f32) (s : Run F) :
    ∀ (m k : Nat) (h : k + m = 12) (O : Vec F S96x1x7680 .f32) (Q : Rows F m → sProp 𝕄),
      iprop((has c xs XS ∗ has c out O)
          ∗ ((has c xs XS ∗ has c out (putRows (scaled hl a XS ws) k t O)) -∗ Q (Rows.of (s.step T (scaled hl a XS ws)) m k h)))
        ⊢ (wp frame (wpE defs 𝒱 c none) E (rowGo out xs hc a ws (broadcast S8x128 T) ht hN m k h (Rows.of s m k h)) Q : sProp 𝕄)
  | 0, k, h, O, Q => by
    obtain rfl : k = 12 := by omega
    rw [putRows_full]
    unfold rowGo
    iintro ⟨H, Hk⟩
    iapply (ret_owned 𝒱 c E (a := Rows.of (s.step T (scaled hl a XS ws)) 0 12 h) (Q := Q))
    iapply Hk; iexact H
  | m + 1, k, h, O, Q => by
    have hy := rowAt_scaled hl hc a XS ws h (by decide)
    have hput : putRows (scaled hl a XS ws) (k + 1) t (fun z => if (8 * k ≤ (z 0).val ∧ (z 0).val < 8 * k + 8) ∧ (z 2).val / 128 = t then
        scaled hl a XS ws (ix2 (z 0) ⟨(z 2).val % 128, Nat.mod_lt _ (by decide)⟩) else O z) = putRows (scaled hl a XS ws) k t O := by
      funext z
      unfold putRows
      by_cases h1 : 8 * (k + 1) ≤ (z 0).val ∧ (z 2).val / 128 = t
      · rw [if_pos h1, if_pos ⟨by omega, h1.2⟩]
      · rw [if_neg h1]
        by_cases h2 : (8 * k ≤ (z 0).val ∧ (z 0).val < 8 * k + 8) ∧ (z 2).val / 128 = t
        · exact (if_pos h2).trans (if_pos ⟨h2.1.1, h2.2⟩).symm
        · exact (if_neg h2).trans (if_neg (by omega)).symm
    unfold rowGo
    simp only [Rows.of, Prog.lift, Prog.bind_op, Prog.bind_ret]
    iintro ⟨⟨Hx, Ho⟩, Hk⟩
    iapply (load_owned 𝒱 c E)
    isplitl [Hx]; · iexact Hx
    iintro Hx
    generalize hY : (mulf (mulf _ _) _ : FVec F S8x128 .f32) = y
    have hy' : y = rowAt (scaled hl a XS ws) h := hY.symm.trans hy
    subst hy'
    iapply (load_owned 𝒱 c E)
    isplitl [Ho]; · iexact Ho
    iintro Ho
    iapply (store_owned 𝒱 c E (X' := fun z => if (8 * k ≤ (z 0).val ∧ (z 0).val < 8 * k + 8) ∧ (z 2).val / 128 = t then
      scaled hl a XS ws (ix2 (z 0) ⟨(z 2).val % 128, Nat.mod_lt _ (by decide)⟩) else O z) ?_ ?_)
    · intro x
      have h0 : (x 0).val < 8 := (x 0).isLt
      have h2 : (x 2).val < 128 := (x 2).isLt
      refine (if_pos ⟨⟨show 8 * k ≤ 8 * k + 1 * (x 0).val by omega, show 8 * k + 1 * (x 0).val < 8 * k + 8 by omega⟩,
        show (128 * t + 1 * (x 2).val) / 128 = t by omega⟩).trans ?_
      refine Eq.trans ?_ (cast_group _ _ x).symm
      unfold rowAt
      congr 1
      funext d
      match d with
      | 0 => exact Fin.ext rfl
      | 1 => exact Fin.ext (show (128 * t + 1 * (x 2).val) % 128 = 0 + 1 * (x 2).val by omega)
    · intro z hz
      exact if_neg (not_in_group h ht hN z hz)
    isplitl [Ho]; · iexact Ho
    iintro Ho
    iapply (bind_owned 𝒱 c E)
    iapply (rowGo_spec hl hc a ws T ht hN XS s m (k + 1) (next h))
    isplitl [Hx Ho]
    · isplitl [Hx]; · iexact Hx
      iexact Ho
    rw [hput]
    iintro ⟨Hx, Ho⟩
    rw [rowAt_step]
    iapply (ret_owned 𝒱 c E)
    iapply Hk
    isplitl [Hx]; · iexact Hx
    iexact Ho

/-- A tile: its scores are stored and folded into the running arrays. -/
theorem tile_spec {sc : Memref sig .tc .vmem S151936 .f32} {out : Memref sig .tc .vmem S96x1x7680 .f32} {xs : Memref sig .tc .vmem S96x128 .f32} {n l : Nat}
    (hl : l + 128 ≤ n) (hc : Cut n l) (a : FVec F (S96xN n) .f32) {t N : Nat} (ht : t < N) (hN : N ≤ 60) (o : Scales N)
    (XS : FVec F S96x128 .f32) (S : Vec F S151936 .f32) (s : Run F) (O : Vec F S96x1x7680 .f32) (Q : Rows F 12 → sProp 𝕄) :
    iprop((has c sc S ∗ has c xs XS ∗ has c out O)
        ∗ ((has c sc S ∗ has c xs XS ∗ has c out (putRows (scaled hl a XS (scalesAt (o.off (BitVec.ofNat 32 t) 0) S)) 0 t O))
          -∗ Q (Rows.of (s.step (Scalar.addi o.v3 (BitVec.ofNat 32 t)) (scaled hl a XS (scalesAt (o.off (BitVec.ofNat 32 t) 0) S))) 12 0 rfl)))
      ⊢ (wp frame (wpE defs 𝒱 c none) E (tile sc out xs hN o hc a t ht (Rows.of s 12 0 rfl)) Q : sProp 𝕄) := by
  have hb : ∀ j : Fin 128, o.off (BitVec.ofNat 32 t) 0 + j.val < 151936 := fun j => by
    have : o.off (BitVec.ofNat 32 t) 0 + 128 ≤ 151936 := o.inb ⟨t, ht⟩ 0
    omega
  have hw : (shapeCast S1x128 (fun i => S ((Rect.unit (s := S151936) (o.off (BitVec.ofNat 32 t)) S128.size (o.inb ⟨t, ht⟩)).toLoadRect.idx i) : S128.Idx → Elt F .f32) (by decide) : FVec F S1x128 .f32)
      = scalesAt (o.off (BitVec.ofNat 32 t) 0) S := by
    funext j
    obtain ⟨p, q, rfl⟩ : ∃ (p : Fin 1) (q : Fin 128), j = ix2 p q := ⟨j 0, j 1, eq_ix2 j⟩
    refine (shapeCast_apply _ _ _ (ix1 q) ?_).trans ?_
    · refine (Shape.rowMajor_val_one _).trans (Eq.trans ?_ (Shape.rowMajor_val_two _).symm)
      show q.val = p.val * 128 + q.val
      omega
    · unfold scalesAt
      refine congrArg S (funext fun d => ?_)
      match d with
      | 0 => exact Fin.ext (show o.off (BitVec.ofNat 32 t) 0 + 1 * q.val = (o.off (BitVec.ofNat 32 t) 0 + q.val) % 151936 by
          rw [Nat.mod_eq_of_lt (hb q)]; omega)
  unfold tile
  simp only [Prog.lift, Prog.bind_op, Prog.bind_ret]
  iintro ⟨⟨Hs, Hx, Ho⟩, Hk⟩
  iapply (load_owned 𝒱 c E)
  isplitl [Hs]; · iexact Hs
  iintro Hs
  generalize hW : (shapeCast S1x128 _ _ : FVec F S1x128 .f32) = ws
  have hw' : ws = scalesAt (o.off (BitVec.ofNat 32 t) 0) S := hW.symm.trans hw
  subst hw'
  iapply (rowGo_spec 𝒱 c E hl hc a _ (Scalar.addi o.v3 (BitVec.ofNat 32 t)) ht hN XS s 12 0 rfl)
  isplitl [Hx Ho]
  · isplitl [Hx]; · iexact Hx
    iexact Ho
  iintro ⟨Hx, Ho⟩
  iapply Hk
  isplitl [Hs]; · iexact Hs
  isplitl [Hx]; · iexact Hx
  iexact Ho

/-- Blocks of two tiles, from an even tile on. -/
theorem blocks_spec {wt : Memref sig .tc .vmem S448x7680 .i8} {sc : Memref sig .tc .vmem S151936 .f32} {out : Memref sig .tc .vmem S96x1x7680 .f32}
    {xs : Memref sig .tc .vmem S96x128 .f32} (XP : FVec F S96x896 .bf16) (Wb W : Vec F S448x7680 .i8) (XS : FVec F S96x128 .f32) (S : Vec F S151936 .f32)
    {N : Nat} (hN : N ≤ 60) (hW : ∀ j : S448x7680.Idx, (j 1).val < 128 * N → Wb j = W j) (o : Scales N) (Y : Nat → FVec F S96x128 .f32) :
    ∀ (m t : Nat) (h : t + 2 * m ≤ N) (h2 : t % 2 = 0)
      (hY : ∀ u, u < t + 2 * m → Y u = pairTile XP W XS S (fun u => o.off (BitVec.ofNat 32 u) 0) u)
      (s : Run F) (O : Vec F S96x1x7680 .f32) (Q : Rows F 12 → sProp 𝕄),
      iprop((has c wt Wb ∗ has c sc S ∗ has c xs XS ∗ has c out O)
          ∗ ((has c wt Wb ∗ has c sc S ∗ has c xs XS ∗ has c out (put Y t (t + 2 * m) O))
            -∗ Q (Rows.of (Run.after (fun u => Scalar.addi o.v3 (BitVec.ofNat 32 u)) Y (2 * m) t s) 12 0 rfl)))
        ⊢ (wp frame (wpE defs 𝒱 c none) E (blocks XP wt sc out xs hN o m t h (Rows.of s 12 0 rfl)) Q : sProp 𝕄)
  | 0, t, h, h2, hY, s, O, Q => by
    rw [show t + 2 * 0 = t from rfl, put_self, show Run.after (fun u => Scalar.addi o.v3 (BitVec.ofNat 32 u)) Y (2 * 0) t s = s from rfl]
    unfold blocks
    iintro ⟨H, Hk⟩
    iapply (ret_owned 𝒱 c E)
    iapply Hk; iexact H
  | m + 1, t, h, h2, hY, s, O, Q => by
    have e0 := (pairTile_even XP W XS S (fun u => o.off (BitVec.ofNat 32 u) 0) h2).symm.trans (hY t (by omega)).symm
    have e1 := (pairTile_odd XP W XS S (fun u => o.off (BitVec.ofNat 32 u) 0) h2).symm.trans (hY (t + 1) (by omega)).symm
    have hv := cols_load (n := 256) (q := 2) (t := t) (N := N) (by omega) hN rfl Wb W hW (inb_w (n := 2) (by omega) hN rfl)
    have hput : put Y t (t + 2 * (m + 1)) O = put Y (t + 2) (t + 2 + 2 * m) (putRows (Y (t + 1)) 0 (t + 1) (putRows (Y t) 0 t O)) := by
      rw [putRows_zero, putRows_zero, put_put Y (by omega) (by omega), put_put Y (by omega) (by omega)]
      rw [show t + 2 + 2 * m = t + 2 * (m + 1) by omega]
    have hafter : Run.after (fun u => Scalar.addi o.v3 (BitVec.ofNat 32 u)) Y (2 * (m + 1)) t s
        = Run.after (fun u => Scalar.addi o.v3 (BitVec.ofNat 32 u)) Y (2 * m) (t + 2)
          ((s.step (Scalar.addi o.v3 (BitVec.ofNat 32 t)) (Y t)).step (Scalar.addi o.v3 (BitVec.ofNat 32 (t + 1))) (Y (t + 1))) := by
      rw [show 2 * (m + 1) = (2 * m + 1) + 1 by omega]; rfl
    rw [hput, hafter]
    unfold blocks
    simp only [Prog.lift, Prog.bind_op, Prog.bind_ret]
    iintro ⟨⟨Hw, Hs, Hx, Ho⟩, Hk⟩
    iapply (load_known 𝒱 c E hv)
    isplitl [Hw]; · iexact Hw
    iintro Hw
    iapply (bind_owned 𝒱 c E)
    iapply (tile_spec 𝒱 c E (by omega) cut256_0 (acc blk256 XP (cols 256 (128 * t) W)) (t := t) _ hN o XS S s O)
    isplitl [Hs Hx Ho]
    · isplitl [Hs]; · iexact Hs
      isplitl [Hx]; · iexact Hx
      iexact Ho
    rw [e0]
    iintro ⟨Hs, Hx, Ho⟩
    iapply (bind_owned 𝒱 c E)
    iapply (tile_spec 𝒱 c E (by omega) cut256_128 (acc blk256 XP (cols 256 (128 * t) W)) (t := t + 1) _ hN o XS S
      (s.step (Scalar.addi o.v3 (BitVec.ofNat 32 t)) (Y t)) (putRows (Y t) 0 t O))
    isplitl [Hs Hx Ho]
    · isplitl [Hs]; · iexact Hs
      isplitl [Hx]; · iexact Hx
      iexact Ho
    rw [e1]
    iintro ⟨Hs, Hx, Ho⟩
    iapply (blocks_spec XP Wb W XS S hN hW o Y m (t + 2) _ (by omega) (fun u hu => hY u (by omega))
      ((s.step (Scalar.addi o.v3 (BitVec.ofNat 32 t)) (Y t)).step (Scalar.addi o.v3 (BitVec.ofNat 32 (t + 1))) (Y (t + 1)))
      (putRows (Y (t + 1)) 0 (t + 1) (putRows (Y t) 0 t O)) Q)
    isplitl [Hw Hs Hx Ho]
    · isplitl [Hw]; · iexact Hw
      isplitl [Hs]; · iexact Hs
      isplitl [Hx]; · iexact Hx
      iexact Ho
    iexact Hk

/-- The row groups of an owned array, loaded in order. -/
theorem loadRows_spec {e : EltTy} {b : Memref sig .tc .vmem S96x128 e} (B : S96x128.Idx → Elt F e) {β : Type} :
    ∀ (m k : Nat) (h : k + m = 12) (p : (Fin m → Vec F S8x128 e) → Prog (TpuEff nD τ sig (Elt F) Λ .tc) β) (Q : β → sProp 𝕄),
      iprop(has c b B ∗ (has c b B -∗ wp frame (wpE defs 𝒱 c none) E (p (rowsAt B m k h)) Q))
        ⊢ (wp frame (wpE defs 𝒱 c none) E (loadRows b m k h p) Q : sProp 𝕄)
  | 0, k, h, p, Q => by
    unfold loadRows
    iintro ⟨H, Hk⟩
    iapply Hk; iexact H
  | m + 1, k, h, p, Q => by
    unfold loadRows
    simp only [Prog.lift, Prog.bind_op, Prog.bind_ret]
    iintro ⟨H, Hk⟩
    iapply (load_owned 𝒱 c E)
    isplitl [H]; · iexact H
    iintro H
    iapply (loadRows_spec B m (k + 1) (next h) _ Q)
    isplitl [H]; · iexact H
    iexact Hk

/-- One row group stored. -/
theorem storeRow_spec {e : EltTy} (he : e.bits = 32) {b : Memref sig .tc .vmem S96x128 e} (A : S96x128.Idx → Elt F e) {k m : Nat}
    (h : k + (m + 1) = 12) (C : S96x128.Idx → Elt F e)     (Q : PUnit → sProp 𝕄) :
    iprop(has c b C ∗ (has c b (fun i => if 8 * k ≤ (i 0).val ∧ (i 0).val < 8 * k + 8 then A i else C i) -∗ Q ⟨⟩))
      ⊢ (wp frame (wpE defs 𝒱 c none) E (storeRow he b h (rowAt A h)) Q : sProp 𝕄) := by
  unfold storeRow
  simp only [Prog.lift, Prog.bind_op, Prog.bind_ret]
  iintro ⟨H, Hk⟩
  iapply (load_owned 𝒱 c E)
  isplitl [H]; · iexact H
  iintro H
  iapply (store_owned 𝒱 c E (X' := fun i => if 8 * k ≤ (i 0).val ∧ (i 0).val < 8 * k + 8 then A i else C i) ?_ ?_)
  · intro x
    have h0 : (x 0).val < 8 := (x 0).isLt
    refine (if_pos ⟨show 8 * k ≤ 8 * k + 1 * (x 0).val by omega, show 8 * k + 1 * (x 0).val < 8 * k + 8 by omega⟩).trans ?_
    exact (congrFun (cast_same (rowAt A h) _) x).symm
  · intro z hz
    refine if_neg (fun h0 => hz (ix2 ⟨(z 0).val - 8 * k, by omega⟩ (z 1)) ?_)
    funext a
    match a with
    | 0 => exact Fin.ext (show 8 * k + 1 * ((z 0).val - 8 * k) = (z 0).val by omega)
    | 1 => exact Fin.ext (show 0 + 1 * (z 1).val = (z 1).val by omega)
  isplitl [H]; · iexact H
  iintro H
  iapply (ret_owned 𝒱 c E)
  iapply Hk; iexact H

/-- A row group's two descriptions of a partly written array agree. -/
theorem mixed_succ {α : Type} (A D : S96x128.Idx → α) (k : Nat) :
    mixed A (fun i => if 8 * k ≤ (i 0).val ∧ (i 0).val < 8 * k + 8 then A i else D i) (k + 1) = mixed A D k := by
  funext i
  unfold mixed
  by_cases h1 : 8 * (k + 1) ≤ (i 0).val
  · rw [if_pos h1, if_pos (by omega)]
  · rw [if_neg h1]
    by_cases h2 : 8 * k ≤ (i 0).val
    · exact (if_pos ⟨h2, by omega⟩).trans (if_pos h2).symm
    · exact (if_neg fun h => h2 h.1).trans (if_neg h2).symm

/-- The running arrays written back. -/
theorem storeRows_spec {b1 b2 : Memref sig .tc .vmem S96x128 .f32} {b3 : Memref sig .tc .vmem S96x128 .i32} (s : Run F) :
    ∀ (m k : Nat) (h : k + m = 12) (B1 B2 : FVec F S96x128 .f32) (B3 : IVec S96x128 32) (Q : PUnit → sProp 𝕄),
      iprop((has c b1 B1 ∗ has c b2 B2 ∗ has (F := F) c b3 B3)
          ∗ ((has c b1 (mixed s.m1 B1 k) ∗ has c b2 (mixed s.m2 B2 k) ∗ has (F := F) c b3 (mixed s.ix B3 k)) -∗ Q ⟨⟩))
        ⊢ (wp frame (wpE defs 𝒱 c none) E (storeRows b1 b2 b3 m k h (Rows.of s m k h)) Q : sProp 𝕄)
  | 0, k, h, B1, B2, B3, Q => by
    obtain rfl : k = 12 := by omega
    rw [mixed_full, mixed_full, mixed_full]
    unfold storeRows
    iintro ⟨H, Hk⟩
    iapply (ret_owned 𝒱 c E)
    iapply Hk; iexact H
  | m + 1, k, h, B1, B2, B3, Q => by
    rw [← mixed_succ s.m1 B1, ← mixed_succ s.m2 B2, ← mixed_succ s.ix B3]
    unfold storeRows
    simp only [Rows.of]
    iintro ⟨⟨H1, H2, H3⟩, Hk⟩
    iapply (bind_owned 𝒱 c E)
    iapply (storeRow_spec 𝒱 c E (e := .f32) rfl s.m1 h B1)
    isplitl [H1]; · iexact H1
    iintro H1
    iapply (bind_owned 𝒱 c E)
    iapply (storeRow_spec 𝒱 c E (e := .f32) rfl s.m2 h B2)
    isplitl [H2]; · iexact H2
    iintro H2
    iapply (bind_owned 𝒱 c E)
    iapply (storeRow_spec 𝒱 c E (e := .i32) rfl s.ix h B3)
    isplitl [H3]; · iexact H3
    iintro H3
    iapply (storeRows_spec s m (k + 1) (next h) _ _ _ Q)
    isplitl [H1 H2 H3]
    · isplitl [H1]; · iexact H1
      isplitl [H2]; · iexact H2
      iexact H3
    iexact Hk

/-- The whole array loaded at once. -/
theorem load_whole_eq {e : EltTy} {s : Shape} (X : s.Idx → Elt F e) {off : Fin s.rank → Nat} (hoff : off = fun _ => 0) (inb : ∀ a, off a + s.size a ≤ s.size a) :
    (fun i => X ((Rect.unit (s := s) off s.size inb).toLoadRect.idx i)) = X := by
  subst hoff
  funext i
  refine congrArg X (funext fun d => Fin.ext ?_)
  show 0 + 1 * (i d).val = (i d).val
  omega

theorem zero2 : (![0, 0] : Fin 2 → Nat) = fun _ => 0 := by
  funext a
  match a with
  | 0 => rfl
  | 1 => rfl

/-- One grid step's pass over its columns. -/
theorem columns_spec {xpb : Memref sig .tc .vmem S96x896 .bf16} {wt : Memref sig .tc .vmem S448x7680 .i8} {sc : Memref sig .tc .vmem S151936 .f32}
    {out : Memref sig .tc .vmem S96x1x7680 .f32} {xs : Memref sig .tc .vmem S96x128 .f32}
    {b1 b2 : Memref sig .tc .vmem S96x128 .f32} {b3 : Memref sig .tc .vmem S96x128 .i32}
    (XP : FVec F S96x896 .bf16) (Wb W : Vec F S448x7680 .i8) (XS : FVec F S96x128 .f32) (S : Vec F S151936 .f32)
    {N : Nat} (hN : N ≤ 60) (hW : ∀ j : S448x7680.Idx, (j 1).val < 128 * N → Wb j = W j) (o : Scales N)
    (m : Nat) (odd : Bool) (hm : 2 * m + odd.toNat = N) (s : Run F) (O : Vec F S96x1x7680 .f32) (Q : PUnit → sProp 𝕄) :
    iprop((has c xpb XP ∗ has c wt Wb ∗ has c sc S ∗ has c xs XS ∗ has c out O ∗ has c b1 s.m1 ∗ has c b2 s.m2 ∗ has (F := F) c b3 s.ix)
        ∗ ((has c xpb XP ∗ has c wt Wb ∗ has c sc S ∗ has c xs XS
              ∗ has c out (put (blockTile XP W XS S (fun u => o.off (BitVec.ofNat 32 u) 0) m) 0 N O)
              ∗ has c b1 (Run.after (fun u => Scalar.addi o.v3 (BitVec.ofNat 32 u)) (blockTile XP W XS S (fun u => o.off (BitVec.ofNat 32 u) 0) m) N 0 s).m1
              ∗ has c b2 (Run.after (fun u => Scalar.addi o.v3 (BitVec.ofNat 32 u)) (blockTile XP W XS S (fun u => o.off (BitVec.ofNat 32 u) 0) m) N 0 s).m2
              ∗ has (F := F) c b3 (Run.after (fun u => Scalar.addi o.v3 (BitVec.ofNat 32 u)) (blockTile XP W XS S (fun u => o.off (BitVec.ofNat 32 u) 0) m) N 0 s).ix)
          -∗ Q ⟨⟩))
      ⊢ (wp frame (wpE defs 𝒱 c none) E (columns xpb wt sc out xs b1 b2 b3 hN o m odd hm) Q : sProp 𝕄) := by
  have hY : ∀ u, u < 0 + 2 * m → blockTile XP W XS S (fun u => o.off (BitVec.ofNat 32 u) 0) m u = pairTile XP W XS S (fun u => o.off (BitVec.ofNat 32 u) 0) u :=
    fun u hu => if_pos (by omega)
  have hlast : blockTile XP W XS S (fun u => o.off (BitVec.ofNat 32 u) 0) m (2 * m) = loneTile XP W XS S (fun u => o.off (BitVec.ofNat 32 u) 0) (2 * m) :=
    if_neg (by omega)
  generalize hYdef : blockTile XP W XS S (fun u => o.off (BitVec.ofNat 32 u) 0) m = Y at *
  unfold columns
  simp only [Prog.lift, Prog.bind_op, Prog.bind_ret]
  iintro ⟨⟨Hp, Hw, Hs, Hx, Ho, H1, H2, H3⟩, Hk⟩
  iapply (load_known 𝒱 c E (load_whole_eq XP zero2 inb_codes))
  isplitl [Hp]; · iexact Hp
  iintro Hp
  iapply (loadRows_spec 𝒱 c E s.m1 12 0 rfl)
  isplitl [H1]; · iexact H1
  iintro H1
  iapply (loadRows_spec 𝒱 c E s.m2 12 0 rfl)
  isplitl [H2]; · iexact H2
  iintro H2
  iapply (loadRows_spec 𝒱 c E (e := .i32) s.ix 12 0 rfl)
  isplitl [H3]; · iexact H3
  iintro H3
  rw [Rows.mk_rowsAt s 12 0 rfl]
  iapply (bind_owned 𝒱 c E)
  iapply (blocks_spec 𝒱 c E XP Wb W XS S hN hW o Y m 0 _ rfl hY s O)
  isplitl [Hw Hs Hx Ho]
  · isplitl [Hw]; · iexact Hw
    isplitl [Hs]; · iexact Hs
    isplitl [Hx]; · iexact Hx
    iexact Ho
  iintro ⟨Hw, Hs, Hx, Ho⟩
  cases odd
  · obtain rfl : N = 2 * m := by simpa using hm.symm
    rw [Nat.zero_add]
    simp only
    iapply (bind_owned 𝒱 c E)
    iapply (ret_owned 𝒱 c E)
    iapply (storeRows_spec 𝒱 c E _ 12 0 rfl s.m1 s.m2 s.ix)
    isplitl [H1 H2 H3]
    · isplitl [H1]; · iexact H1
      isplitl [H2]; · iexact H2
      iexact H3
    rw [mixed_zero, mixed_zero, mixed_zero]
    iintro ⟨H1, H2, H3⟩
    iapply Hk
    isplitl [Hp]; · iexact Hp
    isplitl [Hw]; · iexact Hw
    isplitl [Hs]; · iexact Hs
    isplitl [Hx]; · iexact Hx
    isplitl [Ho]; · iexact Ho
    isplitl [H1]; · iexact H1
    isplitl [H2]; · iexact H2
    iexact H3
  · obtain rfl : N = 2 * m + 1 := by simpa using hm.symm
    have hv := cols_load (n := 128) (q := 1) (t := 2 * m) (N := 2 * m + 1) (by omega) hN rfl Wb W hW (inb_w (n := 1) (by omega) hN rfl)
    have hput : put Y 0 (2 * m + 1) O = putRows (Y (2 * m)) 0 (2 * m) (put Y 0 (2 * m) O) := by
      rw [putRows_zero, put_put Y (by omega) (by omega)]
    have hafter := Run.after_succ (fun u => Scalar.addi o.v3 (BitVec.ofNat 32 u)) Y (2 * m) 0 s

    rw [hput, hafter]
    simp only [Nat.zero_add, hlast]
    simp only [lastTile, Prog.lift, Prog.bind_op, Prog.bind_ret]
    iapply (load_known 𝒱 c E hv)
    isplitl [Hw]; · iexact Hw
    iintro Hw
    iapply (bind_owned 𝒱 c E)
    iapply (tile_spec 𝒱 c E (by omega) cut128_0 (acc blk128 XP (cols 128 (128 * (2 * m)) W)) (t := 2 * m) _ hN o XS S
      (Run.after (fun u => Scalar.addi o.v3 (BitVec.ofNat 32 u)) Y (2 * m) 0 s) (put Y 0 (2 * m) O))
    isplitl [Hs Hx Ho]
    · isplitl [Hs]; · iexact Hs
      isplitl [Hx]; · iexact Hx
      iexact Ho
    rw [show scaled (n := 128) (l := 0) (by omega) (acc blk128 XP (cols 128 (128 * (2 * m)) W)) XS (scalesAt (o.off (BitVec.ofNat 32 (2 * m)) 0) S)
      = loneTile XP W XS S (fun u => o.off (BitVec.ofNat 32 u) 0) (2 * m) from rfl]
    iintro ⟨Hs, Hx, Ho⟩
    iapply (storeRows_spec 𝒱 c E _ 12 0 rfl s.m1 s.m2 s.ix)
    isplitl [H1 H2 H3]
    · isplitl [H1]; · iexact H1
      isplitl [H2]; · iexact H2
      iexact H3
    rw [mixed_zero, mixed_zero, mixed_zero]
    iintro ⟨H1, H2, H3⟩
    iapply Hk
    isplitl [Hp]; · iexact Hp
    isplitl [Hw]; · iexact Hw
    isplitl [Hs]; · iexact Hs
    isplitl [Hx]; · iexact Hx
    isplitl [Ho]; · iexact Ho
    isplitl [H1]; · iexact H1
    isplitl [H2]; · iexact H2
    iexact H3

end Head

end
-- ==== Proof.Head.Body.lean ====
/-
  A grid step, run: the quantiser, the pass over the columns and the last step's results, each from buffers owned with known contents.
-/
module

public import proofs.«01_k».proof.Proof.Head.Columns

@[expose] public section

noncomputable section

namespace Head

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {U : Type} [URA U] {Λ : Labels}

local notation "𝕄" => MT nD τ sig Unit (Elt F) ℕ U ℕ

variable {defs : Defs nD τ sig (Elt F) Λ} (𝒱 : Variants) (c : Dev nD) (E : Set ℕ)

/-- One value over a running array. -/
theorem reset_spec {e : EltTy} (he : e.bits = 32) {b : Memref sig .tc .vmem S96x128 e} (v C : S96x128.Idx → Elt F e) (Q : PUnit → sProp 𝕄) :
    iprop(has c b C ∗ (has c b v -∗ Q ⟨⟩)) ⊢ (wp frame (wpE defs 𝒱 c none) E (reset he b v) Q : sProp 𝕄) := by
  unfold reset
  simp only [Prog.lift, Prog.bind_op, Prog.bind_ret]
  iintro ⟨H, Hk⟩
  iapply (load_owned 𝒱 c E)
  isplitl [H]; · iexact H
  iintro H
  iapply (store_owned 𝒱 c E (X' := v) ?_ ?_)
  · intro x
    exact (congrFun (load_whole_eq v zero2 inb_run) x).trans (congrFun (cast_same v _) x).symm
  · intro z hz
    refine absurd ?_ (hz z)
    funext a
    match a with
    | 0 => exact Fin.ext (show 0 + 1 * (z 0).val = (z 0).val by omega)
    | 1 => exact Fin.ext (show 0 + 1 * (z 1).val = (z 1).val by omega)
  isplitl [H]; · iexact H
  iintro H
  iapply (ret_owned 𝒱 c E)
  iapply Hk; iexact H

/-- A row of results stored. -/
theorem putRow_spec {e : EltTy} (he : e.bits = 32) {b : Memref sig .tc .vmem S1x96 e} (v C : S1x96.Idx → Elt F e) (Q : PUnit → sProp 𝕄) :
    iprop(has c b C ∗ (has c b v -∗ Q ⟨⟩)) ⊢ (wp frame (wpE defs 𝒱 c none) E (putRow he b v) Q : sProp 𝕄) := by
  unfold putRow
  simp only [Prog.lift, Prog.bind_op, Prog.bind_ret]
  iintro ⟨H, Hk⟩
  iapply (load_owned 𝒱 c E)
  isplitl [H]; · iexact H
  iintro H
  iapply (store_owned 𝒱 c E (X' := v) ?_ ?_)
  · intro x
    exact congrFun (load_whole_eq v zero2 inb_row) x
  · intro z hz
    refine absurd ?_ (hz z)
    funext a
    match a with
    | 0 => exact Fin.ext (show 0 + 1 * (z 0).val = (z 0).val by omega)
    | 1 => exact Fin.ext (show 0 + 1 * (z 1).val = (z 1).val by omega)
  isplitl [H]; · iexact H
  iintro H
  iapply (ret_owned 𝒱 c E)
  iapply Hk; iexact H

/-- One chunk of interleaved codes, by its number. -/
def chunkAt (x : FVec F S96x896 .bf16) (k : Fin 7) : FVec F S96x128 .bf16 := chunk x (c := k.val) (m := 6 - k.val) (by omega)

/-- The interleaved codes. -/
def packed (x : FVec F S96x896 .bf16) : FVec F S96x896 .bf16 := fun i =>
  chunkAt x ⟨(i 1).val / 128, by have : (i 1).val < 896 := (i 1).isLt; omega⟩ (ix2 (i 0) ⟨(i 1).val % 128, by omega⟩)

/-- A chunk by its number is the chunk. -/
theorem chunkAt_eq (x : FVec F S96x896 .bf16) {k m : Nat} (h : k + (m + 1) = 7) (hk : k < 7) : chunkAt x ⟨k, hk⟩ = chunk x h := by
  obtain rfl : m = 6 - k := by omega
  rfl

/-- The interleaved codes from chunk `k` on, the array as it was before that. -/
def packedFrom (x : FVec F S96x896 .bf16) (C : FVec F S96x896 .bf16) (k : Nat) : FVec F S96x896 .bf16 := fun i =>
  if 128 * k ≤ (i 1).val then packed x i else C i

theorem packedFrom_zero (x C : FVec F S96x896 .bf16) : packedFrom x C 0 = packed x := by
  funext i
  exact if_pos (by omega)

theorem packedFrom_full (x C : FVec F S96x896 .bf16) : packedFrom x C 7 = C := by
  funext i
  have : (i 1).val < 896 := (i 1).isLt
  exact if_neg (by omega)

theorem packedFrom_succ (x D : FVec F S96x896 .bf16) (k : Nat) :
    packedFrom x (fun i => if 128 * k ≤ (i 1).val ∧ (i 1).val < 128 * k + 128 then packed x i else D i) (k + 1) = packedFrom x D k := by
  funext i
  unfold packedFrom
  by_cases h1 : 128 * (k + 1) ≤ (i 1).val
  · rw [if_pos h1, if_pos (by omega)]
  · rw [if_neg h1]
    by_cases h2 : 128 * k ≤ (i 1).val
    · exact (if_pos ⟨h2, by omega⟩).trans (if_pos h2).symm
    · exact (if_neg fun h => h2 h.1).trans (if_neg h2).symm

/-- The interleaved codes stored. -/
theorem chunks_spec {xpb : Memref sig .tc .vmem S96x896 .bf16} (hxpb : xpb.IsWhole) (x : FVec F S96x896 .bf16) :
    ∀ (m k : Nat) (h : k + m = 7) (C : FVec F S96x896 .bf16) (Q : PUnit → sProp 𝕄),
      iprop(has c xpb C ∗ (has c xpb (packedFrom x C k) -∗ Q ⟨⟩))
        ⊢ (wp frame (wpE defs 𝒱 c none) E (chunks xpb hxpb x m k h) Q : sProp 𝕄)
  | 0, k, h, C, Q => by
    obtain rfl : k = 7 := by omega
    rw [packedFrom_full]
    unfold chunks
    iintro ⟨H, Hk⟩
    iapply (ret_owned 𝒱 c E)
    iapply Hk; iexact H
  | m + 1, k, h, C, Q => by
    rw [← packedFrom_succ x C]
    unfold chunks
    simp only [Prog.lift, Prog.bind_op, Prog.bind_ret]
    iintro ⟨H, Hk⟩
    iapply (load_owned 𝒱 c E)
    isplitl [H]; · iexact H
    iintro H
    iapply (store_owned 𝒱 c E (X' := fun i => if 128 * k ≤ (i 1).val ∧ (i 1).val < 128 * k + 128 then packed x i else C i) ?_ ?_)
    · intro z
      have h1 : (z 1).val < 128 := (z 1).isLt
      refine (if_pos ⟨show 128 * k ≤ 128 * k + 1 * (z 1).val by omega, show 128 * k + 1 * (z 1).val < 128 * k + 128 by omega⟩).trans ?_
      refine Eq.trans ?_ (congrFun (cast_same (chunk x h) _) z).symm
      rw [← chunkAt_eq x h (by omega)]
      have hq : (128 * k + 1 * (z 1).val) / 128 = k := by omega
      have hr : (128 * k + 1 * (z 1).val) % 128 = (z 1).val := by omega
      have hf : (⟨(128 * k + 1 * (z 1).val) / 128, by omega⟩ : Fin 7) = ⟨k, by omega⟩ := Fin.ext hq
      refine (congrArg (fun a => chunkAt x a _) hf).trans (congrArg _ ?_)
      funext a
      match a with
      | 0 => exact Fin.ext (show 0 + 1 * (z 0).val = (z 0).val by omega)
      | 1 => exact Fin.ext hr
    · intro z hz
      refine if_neg (fun h0 => hz (ix2 (z 0) ⟨(z 1).val - 128 * k, by omega⟩) ?_)
      funext a
      match a with
      | 0 => exact Fin.ext (show 0 + 1 * (z 0).val = (z 0).val by omega)
      | 1 => exact Fin.ext (show 128 * k + 1 * ((z 1).val - 128 * k) = (z 1).val by omega)
    isplitl [H]; · iexact H
    iintro H
    iapply (chunks_spec hxpb x m (k + 1) _ _ Q)
    isplitl [H]; · iexact H
    iexact Hk

/-- The running arrays at their start: no score met. -/
def Run.start : Run F where
  m1 := broadcast S96x128 (Scalar.ofBits .f32 0xFF800000#32)
  m2 := broadcast S96x128 (Scalar.ofBits .f32 0xFF800000#32)
  ix := broadcast S96x128 0#32

/-- The first step's quantiser. -/
theorem quantise_spec {xb : Memref sig .tc .vmem S96x896 .bf16} {codes : Memref sig .tc .vmem S96x896 .i8} (hcodes : codes.IsWhole)
    {scales : Memref sig .tc .vmem S1x96 .f32} {xpb : Memref sig .tc .vmem S96x896 .bf16} (hxpb : xpb.IsWhole) {xs b1 b2 : Memref sig .tc .vmem S96x128 .f32}
    {b3 : Memref sig .tc .vmem S96x128 .i32} (X : FVec F S96x896 .bf16) (Q : PUnit → sProp 𝕄)
    (C : Vec F S96x896 .i8) (C' : FVec F S1x96 .f32) (P : FVec F S96x896 .bf16) (P' B1 B2 : FVec F S96x128 .f32) (B3 : IVec S96x128 32) :
    iprop((has c xb X ∗ has (F := F) c codes C ∗ has c scales C' ∗ has c xpb P ∗ has c xs P' ∗ has c b1 B1 ∗ has c b2 B2 ∗ has (F := F) c b3 B3)
        ∗ ((has c xb X ∗ has (F := F) c codes (fptosi 8 (codesF X)) ∗ has c scales (turned (scaleWide X)) ∗ has c xpb (packed X) ∗ has c xs (scaleWide X)
            ∗ has c b1 (Run.start (F := F)).m1 ∗ has c b2 (Run.start (F := F)).m2 ∗ has (F := F) c b3 (Run.start (F := F)).ix) -∗ Q ⟨⟩))
      ⊢ (wp frame (wpE defs 𝒱 c none) E (quantise xb codes hcodes scales xpb hxpb xs b1 b2 b3) Q : sProp 𝕄) := by
  unfold quantise
  simp only [Prog.lift, Prog.bind_op, Prog.bind_ret]
  iintro ⟨⟨Hx, Hc, Hs, Hp, Hw, H1, H2, H3⟩, Hk⟩
  iapply (load_known 𝒱 c E (load_whole_eq X zero2 inb_codes))
  isplitl [Hx]; · iexact Hx
  iintro Hx
  iapply (load_owned 𝒱 c E)
  isplitl [Hc]; · iexact Hc
  iintro Hc
  iapply (store_owned 𝒱 c E (X' := fptosi 8 (codesF X)) ?_ ?_)
  · intro x
    exact congrFun (load_whole_eq (F := F) (e := .i8) (fptosi 8 (codesF X)) zero2 inb_codes) x
  · intro z hz
    refine absurd ?_ (hz z)
    funext a
    match a with
    | 0 => exact Fin.ext (show 0 + 1 * (z 0).val = (z 0).val by omega)
    | 1 => exact Fin.ext (show 0 + 1 * (z 1).val = (z 1).val by omega)
  isplitl [Hc]; · iexact Hc
  iintro Hc
  iapply (bind_owned 𝒱 c E)
  iapply (reset_spec 𝒱 c E (e := .f32) rfl (scaleWide X) P')
  isplitl [Hw]; · iexact Hw
  iintro Hw
  iapply (bind_owned 𝒱 c E)
  iapply (putRow_spec 𝒱 c E (e := .f32) rfl (turned (scaleWide X)) C')
  isplitl [Hs]; · iexact Hs
  iintro Hs
  iapply (bind_owned 𝒱 c E)
  iapply (chunks_spec 𝒱 c E hxpb X 7 0 rfl P)
  isplitl [Hp]; · iexact Hp
  rw [packedFrom_zero]
  iintro Hp
  iapply (bind_owned 𝒱 c E)
  iapply (reset_spec 𝒱 c E (e := .f32) rfl (Run.start (F := F)).m1 B1)
  isplitl [H1]; · iexact H1
  iintro H1
  iapply (bind_owned 𝒱 c E)
  iapply (reset_spec 𝒱 c E (e := .f32) rfl (Run.start (F := F)).m2 B2)
  isplitl [H2]; · iexact H2
  iintro H2
  iapply (reset_spec 𝒱 c E (e := .i32) rfl (Run.start (F := F)).ix B3)
  isplitl [H3]; · iexact H3
  iintro H3
  iapply Hk
  isplitl [Hx]; · iexact Hx
  isplitl [Hc]; · iexact Hc
  isplitl [Hs]; · iexact Hs
  isplitl [Hp]; · iexact Hp
  isplitl [Hw]; · iexact Hw
  isplitl [H1]; · iexact H1
  isplitl [H2]; · iexact H2
  iexact H3

/-- The tokens of a finished run. -/
def Run.tok (s : Run F) : IVec S1x96 32 := fptosi 32 (asRow (F := F) (sitofp .f32 (tokCol (F := F) s.m1 s.ix)))
/-- The margins of a finished run. -/
def Run.margin (s : Run F) : FVec F S1x96 .f32 := asRow (subf (topCol s.m1) (secondCol s.m1 s.m2 s.ix))
/-- The best scores of a finished run. -/
def Run.top (s : Run F) : FVec F S1x96 .f32 := asRow (topCol s.m1)

/-- The last step's results. -/
theorem finish_spec {b1 b2 : Memref sig .tc .vmem S96x128 .f32} {b3 : Memref sig .tc .vmem S96x128 .i32} {tok : Memref sig .tc .vmem S1x96 .i32}
    {margin top : Memref sig .tc .vmem S1x96 .f32} (s : Run F) (Q : PUnit → sProp 𝕄) (T : IVec S1x96 32) (M M' : FVec F S1x96 .f32) :
    iprop((has c b1 s.m1 ∗ has c b2 s.m2 ∗ has (F := F) c b3 s.ix ∗ has (F := F) c tok T ∗ has c margin M ∗ has c top M')
        ∗ ((has c b1 s.m1 ∗ has c b2 s.m2 ∗ has (F := F) c b3 s.ix ∗ has (F := F) c tok s.tok ∗ has c margin s.margin ∗ has c top s.top) -∗ Q ⟨⟩))
      ⊢ (wp frame (wpE defs 𝒱 c none) E (finish b1 b2 b3 tok margin top) Q : sProp 𝕄) := by
  unfold finish
  simp only [Prog.lift, Prog.bind_op, Prog.bind_ret]
  iintro ⟨⟨H1, H2, H3, Ht, Hm, Hp⟩, Hk⟩
  iapply (load_known 𝒱 c E (load_whole_eq (F := F) (e := .f32) s.m1 zero2 inb_run))
  isplitl [H1]; · iexact H1
  iintro H1
  iapply (load_known 𝒱 c E (load_whole_eq (F := F) (e := .i32) s.ix zero2 inb_run))
  isplitl [H3]; · iexact H3
  iintro H3
  iapply (load_known 𝒱 c E (load_whole_eq (F := F) (e := .f32) s.m2 zero2 inb_run))
  isplitl [H2]; · iexact H2
  iintro H2
  iapply (bind_owned 𝒱 c E)
  iapply (putRow_spec 𝒱 c E (e := .i32) rfl s.tok T)
  isplitl [Ht]; · iexact Ht
  iintro Ht
  iapply (bind_owned 𝒱 c E)
  iapply (putRow_spec 𝒱 c E (e := .f32) rfl s.margin M)
  isplitl [Hm]; · iexact Hm
  iintro Hm
  iapply (putRow_spec 𝒱 c E (e := .f32) rfl s.top M')
  isplitl [Hp]; · iexact Hp
  iintro Hp
  iapply Hk
  isplitl [H1]; · iexact H1
  isplitl [H2]; · iexact H2
  isplitl [H3]; · iexact H3
  isplitl [Ht]; · iexact Ht
  isplitl [Hm]; · iexact Hm
  iexact Hp

end Head

end
-- ==== Proof.Head.Grid.lean ====
/-
  The whole grid: what each step leaves, as functions of the activations, the packed weights and the column scales, and each of the
  three kinds of grid step from the contents the previous step left to those it leaves.
-/
module

public import proofs.«01_k».proof.Proof.Head.Body
public import Idealize.ShloMosaic.Lib.Pipeline.Kit

@[expose] public section

noncomputable section

namespace Head

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {U : Type} [URA U] {Λ : Labels}

local notation "𝕄" => MT nD τ sig Unit (Elt F) ℕ U ℕ

variable {defs : Defs nD τ sig (Elt F) Λ} (𝒱 : Variants) (c : Dev nD) (E : Set ℕ)

/-- The kernel's operands: activations, packed weights (one column a vocabulary entry) and column scales. -/
structure Inputs (F : FTy → Type) where
  x : FVec F S96x896 .bf16
  w : (⟨2, ![448, 151936]⟩ : Shape).Idx → Elt F .i8
  s : Vec F S151936 .f32

/-- Step `t`'s block of weights; past the last column it wraps, and nothing reads it there. -/
def Inputs.block (I : Inputs F) (t : Nat) : Vec F S448x7680 .i8 := fun j =>
  I.w (ix2 (j 0) ⟨(7680 * t + (j 1).val) % 151936, Nat.mod_lt _ (by decide)⟩)

/-- How many tiles step `t` works. -/
def tilesOf (t : Nat) : Nat := if t = 19 then 47 else 60

/-- The scores of step `t`'s tile `u`. -/
def Inputs.tile (I : Inputs F) (t u : Nat) : FVec F S96x128 .f32 :=
  blockTile (packed I.x) (I.block t) (scaleWide I.x) I.s (fun u => 7680 * t + 128 * u) (if t = 19 then 23 else 30) u

/-- The number of step `t`'s tile `u` among all, as a word. -/
def tileNo (t u : Nat) : BitVec 32 := Scalar.addi (Scalar.muli (BitVec.ofNat 32 t) 60#32) (BitVec.ofNat 32 u)

/-- The running arrays before step `t`. -/
def Inputs.runAt (I : Inputs F) : Nat → Run F
  | 0 => Run.start
  | t + 1 => Run.after (tileNo t) (I.tile t) (tilesOf t) 0 (I.runAt t)

/-- The running arrays once every step is done. -/
def Inputs.last (I : Inputs F) : Run F := I.runAt 20

/-- Step `t`'s block of logits. -/
def Inputs.logits (I : Inputs F) (t : Nat) : Vec F S96x1x7680 .f32 := fun z =>
  I.tile t ((z 2).val / 128) (ix2 (z 0) ⟨(z 2).val % 128, Nat.mod_lt _ (by decide)⟩)

theorem put_congr {Y Z : Nat → FVec F S96x128 .f32} {b : Nat} (h : ∀ u, u < b → Y u = Z u) (O : Vec F S96x1x7680 .f32) : put Y 0 b O = put Z 0 b O := by
  funext z
  unfold put
  by_cases hb : (z 2).val / 128 < b
  · rw [h _ hb]
  · rw [if_neg (fun h => hb h.2), if_neg (fun h => hb h.2)]

theorem Run.after_congr {T : Nat → BitVec 32} {Y Z : Nat → FVec F S96x128 .f32} (s : Run F) :
    ∀ n, (∀ u, u < n → Y u = Z u) → Run.after T Y n 0 s = Run.after T Z n 0 s
  | 0, _ => rfl
  | n + 1, h => by
    rw [Run.after_succ, Run.after_succ, Run.after_congr s n (fun u hu => h u (by omega)), Nat.zero_add, h n (by omega)]

theorem blockTile_congr (XP : FVec F S96x896 .bf16) (W : Vec F S448x7680 .i8) (XS : FVec F S96x128 .f32) (S : Vec F S151936 .f32) {o o' : Nat → Nat}
    (m : Nat) {u : Nat} (h : o u = o' u) : blockTile XP W XS S o m u = blockTile XP W XS S o' m u := by
  unfold blockTile pairTile loneTile
  rw [h]

/-- A pass over the columns of step `t`. -/
theorem pass_spec (I : Inputs F) {xpb : Memref sig .tc .vmem S96x896 .bf16} {wt : Memref sig .tc .vmem S448x7680 .i8} {sc : Memref sig .tc .vmem S151936 .f32}
    {out : Memref sig .tc .vmem S96x1x7680 .f32} {xs : Memref sig .tc .vmem S96x128 .f32}
    {b1 b2 : Memref sig .tc .vmem S96x128 .f32} {b3 : Memref sig .tc .vmem S96x128 .i32} (t : Nat) (Wb : Vec F S448x7680 .i8)
    {N : Nat} (hN : N ≤ 60) (hNt : tilesOf t = N) (hW : ∀ j : S448x7680.Idx, (j 1).val < 128 * N → Wb j = I.block t j) (o : Scales N)
    (hv : o.v3 = Scalar.muli (BitVec.ofNat 32 t) 60#32) (ho : ∀ u, u < N → o.off (BitVec.ofNat 32 u) 0 = 7680 * t + 128 * u)
    (m : Nat) (hmt : (if t = 19 then 23 else 30) = m) (odd : Bool) (hm : 2 * m + odd.toNat = N) (O : Vec F S96x1x7680 .f32) (Q : PUnit → sProp 𝕄) :
    iprop((has c xpb (packed I.x) ∗ has c wt Wb ∗ has c sc I.s ∗ has c xs (scaleWide I.x) ∗ has c out O
          ∗ has c b1 (I.runAt t).m1 ∗ has c b2 (I.runAt t).m2 ∗ has (F := F) c b3 (I.runAt t).ix)
        ∗ ((has c xpb (packed I.x) ∗ has c wt Wb ∗ has c sc I.s ∗ has c xs (scaleWide I.x) ∗ has c out (put (I.tile t) 0 N O)
              ∗ has c b1 (I.runAt (t + 1)).m1 ∗ has c b2 (I.runAt (t + 1)).m2 ∗ has (F := F) c b3 (I.runAt (t + 1)).ix)
          -∗ Q ⟨⟩))
      ⊢ (wp frame (wpE defs 𝒱 c none) E (columns xpb wt sc out xs b1 b2 b3 hN o m odd hm) Q : sProp 𝕄) := by
  have hT : (fun u => Scalar.addi o.v3 (BitVec.ofNat 32 u)) = tileNo t := by
    funext u; rw [hv]; rfl
  have hY : ∀ u, u < N → blockTile (packed I.x) (I.block t) (scaleWide I.x) I.s (fun u => o.off (BitVec.ofNat 32 u) 0) m u = I.tile t u := by
    intro u hu
    unfold Inputs.tile
    rw [hmt]
    exact blockTile_congr _ _ _ _ m (ho u hu)
  have h1 := put_congr hY O
  have h2 : I.runAt (t + 1) = Run.after (tileNo t) (blockTile (packed I.x) (I.block t) (scaleWide I.x) I.s (fun u => o.off (BitVec.ofNat 32 u) 0) m) N 0 (I.runAt t) := by
    rw [Run.after_congr _ N hY, ← hNt]; rfl
  rw [← h1, h2, ← hT]
  exact columns_spec 𝒱 c E _ Wb (I.block t) _ _ hN hW o m odd hm _ O Q

section Steps

variable (I : Inputs F) {xb : Memref sig .tc .vmem S96x896 .bf16} {wt : Memref sig .tc .vmem S448x7680 .i8} {sc : Memref sig .tc .vmem S151936 .f32}
  {tok : Memref sig .tc .vmem S1x96 .i32} {margin top : Memref sig .tc .vmem S1x96 .f32} {out : Memref sig .tc .vmem S96x1x7680 .f32}
  {codes : Memref sig .tc .vmem S96x896 .i8} (hcodes : codes.IsWhole) {scales : Memref sig .tc .vmem S1x96 .f32}
  {xpb : Memref sig .tc .vmem S96x896 .bf16} (hxpb : xpb.IsWhole) {xs b1 b2 : Memref sig .tc .vmem S96x128 .f32} {b3 : Memref sig .tc .vmem S96x128 .i32}
  {c1 c2 c3 : BitVec 1} (o2 : c2 = 1#1 → Scales 60) (o3 : c3 = 1#1 → Scales 47)

/-- A step that is neither the first nor the last. -/
theorem mid_spec (t : Nat) (ht : t < 19) (h1 : ¬ c1 = 1#1) (h2 : c2 = 1#1) (h3 : ¬ c3 = 1#1) (Wb : Vec F S448x7680 .i8)
    (hW : ∀ j : S448x7680.Idx, (j 1).val < 128 * 60 → Wb j = I.block t j)
    (hv : (o2 h2).v3 = Scalar.muli (BitVec.ofNat 32 t) 60#32) (ho : ∀ u, u < 60 → (o2 h2).off (BitVec.ofNat 32 u) 0 = 7680 * t + 128 * u)
    (O : Vec F S96x1x7680 .f32) (Q : PUnit → sProp 𝕄) :
    iprop((has c wt Wb ∗ has c sc I.s ∗ has c out O ∗ has c xpb (packed I.x) ∗ has c xs (scaleWide I.x)
          ∗ has c b1 (I.runAt t).m1 ∗ has c b2 (I.runAt t).m2 ∗ has (F := F) c b3 (I.runAt t).ix)
        ∗ ((has c wt Wb ∗ has c sc I.s ∗ has c out (put (I.tile t) 0 60 O) ∗ has c xpb (packed I.x) ∗ has c xs (scaleWide I.x)
              ∗ has c b1 (I.runAt (t + 1)).m1 ∗ has c b2 (I.runAt (t + 1)).m2 ∗ has (F := F) c b3 (I.runAt (t + 1)).ix)
          -∗ Q ⟨⟩))
      ⊢ (wp frame (wpE defs 𝒱 c none) E (body c1 c2 c3 o2 o3 xb wt sc tok margin top out codes hcodes scales xpb hxpb xs b1 b2 b3) Q : sProp 𝕄) := by
  have hb : body (nD := nD) (τ := τ) (F := F) (Λ := Λ) c1 c2 c3 o2 o3 xb wt sc tok margin top out codes hcodes scales xpb hxpb xs b1 b2 b3
      = (columns xpb wt sc out xs b1 b2 b3 (Nat.le_refl 60) (o2 h2) 30 false rfl >>= fun _ => .ret ⟨⟩) := by
    unfold body
    rw [if_neg h1, dif_pos h2, dif_neg h3]
    rfl
  rw [hb]
  iintro ⟨⟨Hw, Hs, Ho, Hp, Hx, H1, H2, H3⟩, Hk⟩
  iapply (bind_owned 𝒱 c E)
  iapply (pass_spec 𝒱 c E I t Wb (Nat.le_refl 60) (if_neg (by omega)) hW (o2 h2) hv ho 30 (if_neg (by omega)) false rfl O)
  isplitl [Hw Hs Ho Hp Hx H1 H2 H3]
  · isplitl [Hp]; · iexact Hp
    isplitl [Hw]; · iexact Hw
    isplitl [Hs]; · iexact Hs
    isplitl [Hx]; · iexact Hx
    isplitl [Ho]; · iexact Ho
    isplitl [H1]; · iexact H1
    isplitl [H2]; · iexact H2
    iexact H3
  iintro ⟨Hp, Hw, Hs, Hx, Ho, H1, H2, H3⟩
  iapply (ret_owned 𝒱 c E)
  iapply Hk
  isplitl [Hw]; · iexact Hw
  isplitl [Hs]; · iexact Hs
  isplitl [Ho]; · iexact Ho
  isplitl [Hp]; · iexact Hp
  isplitl [Hx]; · iexact Hx
  isplitl [H1]; · iexact H1
  isplitl [H2]; · iexact H2
  iexact H3

/-- The first step. -/
theorem first_spec (t : Nat) (ht : t = 0) (h1 : c1 = 1#1) (h2 : c2 = 1#1) (h3 : ¬ c3 = 1#1) (Wb : Vec F S448x7680 .i8)
    (hW : ∀ j : S448x7680.Idx, (j 1).val < 128 * 60 → Wb j = I.block t j)
    (hv : (o2 h2).v3 = Scalar.muli (BitVec.ofNat 32 t) 60#32) (ho : ∀ u, u < 60 → (o2 h2).off (BitVec.ofNat 32 u) 0 = 7680 * t + 128 * u)
    (O : Vec F S96x1x7680 .f32) (C : Vec F S96x896 .i8) (C' : FVec F S1x96 .f32) (P : FVec F S96x896 .bf16) (P' B1 B2 : FVec F S96x128 .f32)
    (B3 : IVec S96x128 32) (Q : PUnit → sProp 𝕄) :
    iprop((has c xb I.x ∗ has c wt Wb ∗ has c sc I.s ∗ has c out O ∗ has (F := F) c codes C ∗ has c scales C' ∗ has c xpb P ∗ has c xs P'
          ∗ has c b1 B1 ∗ has c b2 B2 ∗ has (F := F) c b3 B3)
        ∗ ((has c xb I.x ∗ has c wt Wb ∗ has c sc I.s ∗ has c out (put (I.tile t) 0 60 O) ∗ has (F := F) c codes (fptosi 8 (codesF I.x))
              ∗ has c scales (turned (scaleWide I.x)) ∗ has c xpb (packed I.x) ∗ has c xs (scaleWide I.x)
              ∗ has c b1 (I.runAt (t + 1)).m1 ∗ has c b2 (I.runAt (t + 1)).m2 ∗ has (F := F) c b3 (I.runAt (t + 1)).ix)
          -∗ Q ⟨⟩))
      ⊢ (wp frame (wpE defs 𝒱 c none) E (body c1 c2 c3 o2 o3 xb wt sc tok margin top out codes hcodes scales xpb hxpb xs b1 b2 b3) Q : sProp 𝕄) := by
  have hb : body (nD := nD) (τ := τ) (F := F) (Λ := Λ) c1 c2 c3 o2 o3 xb wt sc tok margin top out codes hcodes scales xpb hxpb xs b1 b2 b3
      = (quantise xb codes hcodes scales xpb hxpb xs b1 b2 b3 >>= fun _ =>
          columns xpb wt sc out xs b1 b2 b3 (Nat.le_refl 60) (o2 h2) 30 false rfl >>= fun _ => .ret ⟨⟩) := by
    unfold body
    rw [if_pos h1, dif_pos h2, dif_neg h3]
    rfl
  rw [hb]
  iintro ⟨⟨Hb, Hw, Hs, Ho, Hc, Ha, Hp, Hx, H1, H2, H3⟩, Hk⟩
  iapply (bind_owned 𝒱 c E)
  iapply (quantise_spec 𝒱 c E hcodes hxpb I.x _ C C' P P' B1 B2 B3)
  isplitl [Hb Hc Ha Hp Hx H1 H2 H3]
  · isplitl [Hb]; · iexact Hb
    isplitl [Hc]; · iexact Hc
    isplitl [Ha]; · iexact Ha
    isplitl [Hp]; · iexact Hp
    isplitl [Hx]; · iexact Hx
    isplitl [H1]; · iexact H1
    isplitl [H2]; · iexact H2
    iexact H3
  rw [show (Run.start : Run F) = I.runAt t by rw [ht]; rfl]
  iintro ⟨Hb, Hc, Ha, Hp, Hx, H1, H2, H3⟩
  iapply (bind_owned 𝒱 c E)
  iapply (pass_spec 𝒱 c E I t Wb (Nat.le_refl 60) (if_neg (by omega)) hW (o2 h2) hv ho 30 (if_neg (by omega)) false rfl O)
  isplitl [Hw Hs Ho Hp Hx H1 H2 H3]
  · isplitl [Hp]; · iexact Hp
    isplitl [Hw]; · iexact Hw
    isplitl [Hs]; · iexact Hs
    isplitl [Hx]; · iexact Hx
    isplitl [Ho]; · iexact Ho
    isplitl [H1]; · iexact H1
    isplitl [H2]; · iexact H2
    iexact H3
  iintro ⟨Hp, Hw, Hs, Hx, Ho, H1, H2, H3⟩
  iapply (ret_owned 𝒱 c E)
  iapply Hk
  isplitl [Hb]; · iexact Hb
  isplitl [Hw]; · iexact Hw
  isplitl [Hs]; · iexact Hs
  isplitl [Ho]; · iexact Ho
  isplitl [Hc]; · iexact Hc
  isplitl [Ha]; · iexact Ha
  isplitl [Hp]; · iexact Hp
  isplitl [Hx]; · iexact Hx
  isplitl [H1]; · iexact H1
  isplitl [H2]; · iexact H2
  iexact H3

/-- The last step. -/
theorem last_spec (t : Nat) (ht : t = 19) (h1 : ¬ c1 = 1#1) (h2 : ¬ c2 = 1#1) (h3 : c3 = 1#1) (Wb : Vec F S448x7680 .i8)
    (hW : ∀ j : S448x7680.Idx, (j 1).val < 128 * 47 → Wb j = I.block t j)
    (hv : (o3 h3).v3 = Scalar.muli (BitVec.ofNat 32 t) 60#32) (ho : ∀ u, u < 47 → (o3 h3).off (BitVec.ofNat 32 u) 0 = 7680 * t + 128 * u)
    (O : Vec F S96x1x7680 .f32) (T : IVec S1x96 32) (M M' : FVec F S1x96 .f32) (Q : PUnit → sProp 𝕄) :
    iprop((has c wt Wb ∗ has c sc I.s ∗ has (F := F) c tok T ∗ has c margin M ∗ has c top M' ∗ has c out O ∗ has c xpb (packed I.x) ∗ has c xs (scaleWide I.x)
          ∗ has c b1 (I.runAt t).m1 ∗ has c b2 (I.runAt t).m2 ∗ has (F := F) c b3 (I.runAt t).ix)
        ∗ ((has c wt Wb ∗ has c sc I.s ∗ has (F := F) c tok (I.runAt (t + 1)).tok ∗ has c margin (I.runAt (t + 1)).margin ∗ has c top (I.runAt (t + 1)).top
              ∗ has c out (put (I.tile t) 0 47 O) ∗ has c xpb (packed I.x) ∗ has c xs (scaleWide I.x)
              ∗ has c b1 (I.runAt (t + 1)).m1 ∗ has c b2 (I.runAt (t + 1)).m2 ∗ has (F := F) c b3 (I.runAt (t + 1)).ix)
          -∗ Q ⟨⟩))
      ⊢ (wp frame (wpE defs 𝒱 c none) E (body c1 c2 c3 o2 o3 xb wt sc tok margin top out codes hcodes scales xpb hxpb xs b1 b2 b3) Q : sProp 𝕄) := by
  have hb : body (nD := nD) (τ := τ) (F := F) (Λ := Λ) c1 c2 c3 o2 o3 xb wt sc tok margin top out codes hcodes scales xpb hxpb xs b1 b2 b3
      = (columns xpb wt sc out xs b1 b2 b3 (by decide : 47 ≤ 60) (o3 h3) 23 true rfl >>= fun _ => finish b1 b2 b3 tok margin top >>= fun _ => .ret ⟨⟩) := by
    unfold body
    rw [if_neg h1, dif_neg h2, dif_pos h3]
    rfl
  rw [hb]
  iintro ⟨⟨Hw, Hs, Ht, Hm, Hq, Ho, Hp, Hx, H1, H2, H3⟩, Hk⟩
  iapply (bind_owned 𝒱 c E)
  iapply (pass_spec 𝒱 c E I t Wb _ (if_pos ht) hW (o3 h3) hv ho 23 (if_pos ht) true rfl O)
  isplitl [Hw Hs Ho Hp Hx H1 H2 H3]
  · isplitl [Hp]; · iexact Hp
    isplitl [Hw]; · iexact Hw
    isplitl [Hs]; · iexact Hs
    isplitl [Hx]; · iexact Hx
    isplitl [Ho]; · iexact Ho
    isplitl [H1]; · iexact H1
    isplitl [H2]; · iexact H2
    iexact H3
  iintro ⟨Hp, Hw, Hs, Hx, Ho, H1, H2, H3⟩
  iapply (bind_owned 𝒱 c E)
  iapply (finish_spec 𝒱 c E (I.runAt (t + 1)) _ T M M')
  isplitl [Ht Hm Hq H1 H2 H3]
  · isplitl [H1]; · iexact H1
    isplitl [H2]; · iexact H2
    isplitl [H3]; · iexact H3
    isplitl [Ht]; · iexact Ht
    isplitl [Hm]; · iexact Hm
    iexact Hq
  iintro ⟨H1, H2, H3, Ht, Hm, Hq⟩
  iapply (ret_owned 𝒱 c E)
  iapply Hk
  isplitl [Hw]; · iexact Hw
  isplitl [Hs]; · iexact Hs
  isplitl [Ht]; · iexact Ht
  isplitl [Hm]; · iexact Hm
  isplitl [Hq]; · iexact Hq
  isplitl [Ho]; · iexact Ho
  isplitl [Hp]; · iexact Hp
  isplitl [Hx]; · iexact Hx
  isplitl [H1]; · iexact H1
  isplitl [H2]; · iexact H2
  iexact H3

end Steps

section Leaves

variable {Λ₀ : Labels} {cfg : Pipeline.Cfg sig Λ₀} {c' : Dev nD} (dat : Pipeline.Dat τ (Elt F) Unit ℕ U ℕ cfg c')

/-- A window idle at a step that does not write it back is left as found. -/
theorem leaves_idle (w : Fin cfg.W) (t : Fin cfg.N) (d : (cfg.win w).block.Idx → Elt F (cfg.win w).elt)
    (hi : cfg.idle w (cfg.grid.coords t) = true) (hf : (cfg.win w).flush t = false) :
    owns (c' : Thread nD τ) ((cfg.win w).stage (cfg.slots t w)) fullShare (dat.before w t d) ⊢ (dat.leaves w t : sProp 𝕄) := by
  unfold Pipeline.Dat.leaves
  rw [hi, hf]
  iintro H
  iexists d; iexact H

/-- A window stated whole is left at its stated contents. -/
theorem leaves_exact (w : Fin cfg.W) (t : Fin cfg.N) {X : (cfg.win w).block.Idx → Elt F (cfg.win w).elt}
    (h : cfg.idle w (cfg.grid.coords t) = false ∨ (cfg.win w).flush t = true) (hl : cfg.loose w = false) (hX : X = dat.after w t) :
    owns (c' : Thread nD τ) ((cfg.win w).stage (cfg.slots t w)) fullShare X ⊢ (dat.leaves w t : sProp 𝕄) := by
  unfold Pipeline.Dat.leaves
  rw [hX, hl]
  rcases h with h | h
  · rw [h]
  · cases cfg.idle w (cfg.grid.coords t)
    · exact .rfl
    · rw [h]

/-- A window stated on the part its transfers move is left at anything that agrees there. -/
theorem leaves_loose (w : Fin cfg.W) (t : Fin cfg.N) {X : (cfg.win w).block.Idx → Elt F (cfg.win w).elt}
    (h : cfg.idle w (cfg.grid.coords t) = false) (hl : cfg.loose w = true)
    (hX : (cfg.win w).fill (cfg.grid.coords t) X ((cfg.win w).cut (cfg.grid.coords t) (dat.after w t)) = X) :
    owns (c' : Thread nD τ) ((cfg.win w).stage (cfg.slots t w)) fullShare X ⊢ (dat.leaves w t : sProp 𝕄) := by
  unfold Pipeline.Dat.leaves
  rw [h, hl]
  iintro H
  iexists X
  rw [hX]
  iexact H

end Leaves

end Head

end
-- ==== Proof.Head.StepKernel.lean ====
/-
  The grid step of `Kernel` as printed is the loop program of Head/Program.lean.
-/
module

public import proofs.«01_k».proof.Kernel
public import proofs.«01_k».proof.Proof.Head.Program
public import Idealize.ShloMosaic.Lib.Tactic

@[expose] public section

noncomputable section

namespace Cert.Kernel

open Idealize.ShloMosaic Idealize.SL.Sem

variable {F : FTy → Type} [FloatOps F]
variable [Facts]
open Facts₀ Facts

/-- The column scales of a step before the last. -/
def scales2 (i : grid0.Coords) (h : k0_cond2 i = 1#1) : Head.Scales 60 :=
  ⟨Scalar.muli (BitVec.ofNat 32 (i 0).val) 60#32, k0_off1 i, k0_off1_inb i h⟩

/-- The column scales of the last step. -/
def scales3 (i : grid0.Coords) (h : k0_cond3 i = 1#1) : Head.Scales 47 :=
  ⟨Scalar.muli (BitVec.ofNat 32 (i 0).val) 60#32, k0_off2 i, k0_off2_inb i h⟩

set_option maxHeartbeats 0 in
set_option maxRecDepth 100000 in
/-- The printed grid step, unrolled over tiles and row groups, is the loop program. -/
theorem step_eq (i : grid0.Coords) (arg1 : Memref sig .tc .vmem S96x896 .bf16) (harg1 : arg1.IsWhole) (arg2 : Memref sig .tc .vmem S448x7680 .i8) (harg2 : arg2.IsWhole) (arg3 : Memref sig .tc .vmem S151936 .f32) (harg3 : arg3.IsWhole) (arg4 : Memref sig .tc .vmem S1x96 .i32) (harg4 : arg4.IsWhole) (arg5 : Memref sig .tc .vmem S1x96 .f32) (harg5 : arg5.IsWhole) (arg6 : Memref sig .tc .vmem S1x96 .f32) (harg6 : arg6.IsWhole) (arg7 : Memref sig .tc .vmem S96x1x7680 .f32) (harg7 : arg7.IsWhole) (arg8 : Memref sig .tc .vmem S96x896 .i8) (harg8 : arg8.IsWhole) (arg9 : Memref sig .tc .vmem S1x96 .f32) (harg9 : arg9.IsWhole) (arg10 : Memref sig .tc .vmem S96x896 .bf16) (harg10 : arg10.IsWhole) (arg11 : Memref sig .tc .vmem S96x128 .f32) (harg11 : arg11.IsWhole) (arg12 : Memref sig .tc .vmem S96x128 .f32) (harg12 : arg12.IsWhole) (arg13 : Memref sig .tc .vmem S96x128 .f32) (harg13 : arg13.IsWhole) (arg14 : Memref sig .tc .vmem S96x128 .i32) (harg14 : arg14.IsWhole) :
    cc0_w4a8_head_top2 (F := F) i arg1 harg1 arg2 harg2 arg3 harg3 arg4 harg4 arg5 harg5 arg6 harg6 arg7 harg7 arg8 harg8 arg9 harg9 arg10 harg10 arg11 harg11 arg12 harg12 arg13 harg13 arg14 harg14 =
      Head.body (k0_cond1 i) (k0_cond2 i) (k0_cond3 i) (scales2 i) (scales3 i) arg1 arg2 arg3 arg4 arg5 arg6 arg7 arg8 harg8 arg9
        arg10 harg10 arg11 arg12 arg13 arg14 := by
  sl_kernel_rfl

end Cert.Kernel

end
-- ==== Proof.Head.RunKernel.lean ====
/-
  `Kernel` run: the proof data of its pipeline, the grid step's obligation, and what every final state holds.
-/
module

public import proofs.«01_k».proof.Proof.Head.Grid
public import proofs.«01_k».proof.Proof.Head.StepKernel
public import proofs.«01_k».proof.Proof.Gen.Kernel.Frame

@[expose] public section

noncomputable section

namespace Cert.Kernel.Proof

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's operands as the region finds them. -/
def inputs (c : Dev nD) : Head.Inputs F where
  x := V m c main_v0
  w := V m c main_v1
  s := V m c main_arg2

/-- The scratch buffers and the random-number register before step `t`: anything at first, the interleaved codes, the rows' scales and
    the running arrays later. -/
def inv (c : Dev nD) : Nat → sProp 𝕄
  | 0 => Pipeline.ΦA spec0 c
  | t + 1 => iprop(Head.has c (Memref.whole cc0_scratch0) (Head.packed (inputs m c).x) ∗ Head.has c (Memref.whole cc0_scratch1) (Head.scaleWide (inputs m c).x)
      ∗ Head.has c (Memref.whole cc0_scratch2) ((inputs m c).runAt (t + 1)).m1 ∗ Head.has c (Memref.whole cc0_scratch3) ((inputs m c).runAt (t + 1)).m2
      ∗ Head.has (F := F) c (Memref.whole cc0_scratch4) ((inputs m c).runAt (t + 1)).ix ∗ ∃ r, prngReg c r)

/-- The proof data: the arrays at the region's entry, what the staging buffers hold after each step, and the scratch buffers between steps. -/
def dats (_ : Fin 1) (c : Dev nD) : Dat τ (Elt F) Unit ℕ (UR sig nD τ) ℕ cfg0 c where
  A w := V m c (Pipeline.arrRef spec0 w)
  after w t := match w with
    | ⟨0, _⟩ => (inputs m c).x
    | ⟨1, _⟩ => (inputs m c).block t.val
    | ⟨2, _⟩ => (inputs m c).s
    | ⟨3, _⟩ => (inputs m c).last.tok
    | ⟨4, _⟩ => (inputs m c).last.margin
    | ⟨5, _⟩ => (inputs m c).last.top
    | ⟨6, _⟩ => (inputs m c).logits t.val
    | ⟨7, _⟩ => (fptosi 8 (Head.codesF (inputs m c).x) : IVec Head.S96x896 8)
    | ⟨8, _⟩ => Head.turned (Head.scaleWide (inputs m c).x)
  Φ t := inv m c t.val
  q _ := fullShare
  owed _ := 0

/-- The kernel's variants: none. -/
abbrev 𝒱₀ : Variants := Variants.none

attribute [local irreducible] Head.Run.tok Head.Run.margin Head.Run.top

/-! ## The grid's points -/

theorem coord_eq : ∀ t : Fin cfg0.N, (grid0.coords t 0).val = t.val := by decide
theorem cond1_iff : ∀ t : Fin cfg0.N, k0_cond1 (grid0.coords t) = 1#1 ↔ t.val = 0 := by decide
theorem cond2_iff : ∀ t : Fin cfg0.N, k0_cond2 (grid0.coords t) = 1#1 ↔ t.val < 19 := by decide
theorem cond3_iff : ∀ t : Fin cfg0.N, k0_cond3 (grid0.coords t) = 1#1 ↔ t.val = 19 := by decide
theorem point_lt (t : Fin cfg0.N) : t.val < 20 := t.isLt

/-! ## What each staging buffer holds when a step begins -/

/-- The activations' block is the whole array. -/
theorem iblk0 (c : Dev nD) (t : Fin cfg0.N) : iblk m c 0 t = (inputs m c).x := by
  funext j
  show V m c main_v0 _ = V m c main_v0 j
  refine congrArg (V m c main_v0) (funext fun a => Fin.ext ?_)
  match a with
  | 0 => show 0 * 96 + 1 * (j 0).val = (j 0).val; omega
  | 1 => show 0 * 896 + 1 * (j 1).val = (j 1).val; omega

/-- The column scales' block is the whole array. -/
theorem iblk2 (c : Dev nD) (t : Fin cfg0.N) : iblk m c 2 t = (inputs m c).s := by
  funext j
  show V m c main_arg2 _ = V m c main_arg2 j
  refine congrArg (V m c main_arg2) (funext fun a => Fin.ext ?_)
  match a with
  | 0 => show 0 * 151936 + 1 * (j 0).val = (j 0).val; omega

theorem before0 (c : Dev nD) (t : Fin cfg0.N) (d) : (dats m 0 c).before 0 t d = (inputs m c).x :=
  (before0_0_of m (dats m 0 c) rfl (fun t => (iblk0 m c t).symm) t d).trans (iblk0 m c t)

theorem before2 (c : Dev nD) (t : Fin cfg0.N) (d) : (dats m 0 c).before 2 t d = (inputs m c).s :=
  (before0_2_of m (dats m 0 c) rfl (fun t => (iblk2 m c t).symm) t d).trans (iblk2 m c t)

theorem xsize1 : ∀ (t : Fin cfg0.N) (a : Fin 2), win0_1.xsize (grid0.coords t) a = ![448, if t.val = 19 then 6016 else 7680] a := by decide

/-- The columns of a weight block that a step works hold the weights. -/
theorem before1 (c : Dev nD) (t : Fin cfg0.N) (d) (j : Head.S448x7680.Idx) (hj : (j 1).val < 128 * Head.tilesOf t.val) :
    (dats m 0 c).before 1 t d j = (inputs m c).block t.val j := by
  have hx0 : win0_1.xsize (grid0.coords t) 0 = 448 := xsize1 t 0
  have hx1 : win0_1.xsize (grid0.coords t) 1 = if t.val = 19 then 6016 else 7680 := xsize1 t 1
  have h0 : (j 0).val < 448 := (j 0).isLt
  have hmv : win0_1.moved (grid0.coords t) j = true := by
    refine (win0_1.moved_iff _ j).mpr fun a => ?_
    match a with
    | 0 => exact hx0 ▸ h0
    | 1 =>
      refine lt_of_lt_of_eq hj (Eq.trans ?_ hx1.symm)
      unfold Head.tilesOf
      split <;> rfl
  have hlt := t.isLt
  have hb : (dats m 0 c).before 1 t d = win0_1.fill (grid0.coords t) d (iblk m c 1 t) := by
    rw [Dat.before_fetched _ _ _ (fetch0_1 t)]; rfl
  rw [hb]
  unfold Window.fill
  rw [dif_pos hmv]
  have hj' : 7680 * t.val + (j 1).val < 151936 := by
    unfold Head.tilesOf at hj
    have := point_lt t
    split at hj <;> omega
  show V m c main_v1 _ = V m c main_v1 _
  refine congrArg (V m c main_v1) (funext fun a => Fin.ext ?_)
  match a with
  | 0 => show 0 * 448 + 1 * (j 0).val = (j 0).val; omega
  | 1 =>
    show (cc0_transform_1 (grid0.coords t) 1) * 7680 + 1 * (j 1).val = (7680 * t.val + (j 1).val) % 151936
    have : cc0_transform_1 (grid0.coords t) 1 = t.val := (by decide : ∀ t : Fin cfg0.N, cc0_transform_1 (grid0.coords t) 1 = t.val) t
    rw [this, Nat.mod_eq_of_lt hj']
    omega

theorem idle3 (t : Fin cfg0.N) : cfg0.idle 3 (grid0.coords t) = !decide (t.val = 19) := (by decide : ∀ t : Fin cfg0.N, cfg0.idle 3 (grid0.coords t) = !decide (t.val = 19)) t
theorem idle4 (t : Fin cfg0.N) : cfg0.idle 4 (grid0.coords t) = !decide (t.val = 19) := idle3 t
theorem idle5 (t : Fin cfg0.N) : cfg0.idle 5 (grid0.coords t) = !decide (t.val = 19) := idle3 t
theorem idle6 (t : Fin cfg0.N) : cfg0.idle 6 (grid0.coords t) = false := (by decide : ∀ t : Fin cfg0.N, cfg0.idle 6 (grid0.coords t) = false) t
theorem idle7 (t : Fin cfg0.N) : cfg0.idle 7 (grid0.coords t) = !decide (t.val = 0) := (by decide : ∀ t : Fin cfg0.N, cfg0.idle 7 (grid0.coords t) = !decide (t.val = 0)) t
theorem idle8 (t : Fin cfg0.N) : cfg0.idle 8 (grid0.coords t) = !decide (t.val = 0) := idle7 t

theorem flush_eq {w : Fin 9} {t : Fin cfg0.N} (h : (cfg0.win w).flush t = true ↔ t.val % 20 = 19) : (cfg0.win w).flush t = decide (t.val = 19) := by
  have := point_lt t
  rw [Bool.eq_iff_iff, h, decide_eq_true_iff]
  omega

/-- After the first step the codes' buffer holds the codes. -/
theorem before7 (c : Dev nD) (d) : ∀ (n : Nat) (t : Fin cfg0.N), t.val = n + 1 → (dats m 0 c).before 7 t d = (fptosi 8 (Head.codesF (inputs m c).x) : IVec Head.S96x896 8)
  | n, t, ht => by
    have hlt := point_lt t
    rw [Dat.before_of_pos _ 7 t (by omega) (Window.fetch_out _ rfl t), flush_eq (flush0_7 _), if_neg (by rw [decide_eq_true_iff]; show ¬ t.val - 1 = 19; omega)]
    unfold Dat.left
    rw [show cfg0.idle 7 (cfg0.grid.coords ⟨t.val - 1, Nat.lt_of_le_of_lt (Nat.sub_le _ _) t.isLt⟩) = !decide (t.val - 1 = 0) from idle7 ⟨t.val - 1, _⟩]
    match n with
    | 0 =>
      rw [show (!decide (t.val - 1 = 0)) = false by simp [ht]]
      rfl
    | n + 1 =>
      rw [show (!decide (t.val - 1 = 0)) = true by simp [ht]]
      exact before7 c d n ⟨t.val - 1, by show t.val - 1 < 20; omega⟩ (by show t.val - 1 = n + 1; omega)

/-- After the first step the scales' buffer holds the rows' scales. -/
theorem before8 (c : Dev nD) (d) : ∀ (n : Nat) (t : Fin cfg0.N), t.val = n + 1 → (dats m 0 c).before 8 t d = Head.turned (Head.scaleWide (inputs m c).x)
  | n, t, ht => by
    have hlt := point_lt t
    rw [Dat.before_of_pos _ 8 t (by omega) (Window.fetch_out _ rfl t), flush_eq (flush0_8 _), if_neg (by rw [decide_eq_true_iff]; show ¬ t.val - 1 = 19; omega)]
    unfold Dat.left
    rw [show cfg0.idle 8 (cfg0.grid.coords ⟨t.val - 1, Nat.lt_of_le_of_lt (Nat.sub_le _ _) t.isLt⟩) = !decide (t.val - 1 = 0) from idle8 ⟨t.val - 1, _⟩]
    match n with
    | 0 =>
      rw [show (!decide (t.val - 1 = 0)) = false by simp [ht]]
      rfl
    | n + 1 =>
      rw [show (!decide (t.val - 1 = 0)) = true by simp [ht]]
      exact before8 c d n ⟨t.val - 1, by show t.val - 1 < 20; omega⟩ (by show t.val - 1 = n + 1; omega)

theorem xsize6 : ∀ (t : Fin cfg0.N) (a : Fin 3), win0_6.xsize (grid0.coords t) a = ![96, 1, 128 * Head.tilesOf t.val] a := by decide

/-- The part of the logits' buffer that is written back is the step's block of logits. -/
theorem fill6 (c : Dev nD) (t : Fin cfg0.N) (O : Vec F Head.S96x1x7680 .f32) :
    win0_6.fill (grid0.coords t) (Head.put ((inputs m c).tile t.val) 0 (Head.tilesOf t.val) O) (win0_6.cut (grid0.coords t) ((inputs m c).logits t.val))
      = Head.put ((inputs m c).tile t.val) 0 (Head.tilesOf t.val) O := by
  refine Window.fill_congr_cut _ _ (funext fun j => ?_)
  have hx : win0_6.xsize (grid0.coords t) 2 = 128 * Head.tilesOf t.val := xsize6 t 2
  have hj : (j 2).val < 128 * Head.tilesOf t.val := hx ▸ (j 2).isLt
  exact if_pos ⟨by omega, show (j 2).val / 128 < _ by omega⟩

/-! ## The grid step's obligation -/

/-- The grid step as the pipeline calls it. -/
theorem step_at (t : Fin cfg0.N) :
    (defs₀ (F := F) .tc cfg0.body (cfg0.bodyArgs t (cfg0.slots t)))
      = Head.body (k0_cond1 (grid0.coords t)) (k0_cond2 (grid0.coords t)) (k0_cond3 (grid0.coords t)) (scales2 (grid0.coords t)) (scales3 (grid0.coords t))
          ((cfg0.win 0).stage (cfg0.slots t 0)) ((cfg0.win 1).stage (cfg0.slots t 1)) ((cfg0.win 2).stage (cfg0.slots t 2)) ((cfg0.win 3).stage (cfg0.slots t 3))
          ((cfg0.win 4).stage (cfg0.slots t 4)) ((cfg0.win 5).stage (cfg0.slots t 5)) ((cfg0.win 6).stage (cfg0.slots t 6)) ((cfg0.win 7).stage (cfg0.slots t 7))
          (hstage0_7 ((cfg0.slots t 7).cast nbuf0_7)) ((cfg0.win 8).stage (cfg0.slots t 8)) (Memref.whole cc0_scratch0) (Memref.isWhole_whole _) (Memref.whole cc0_scratch1)
          (Memref.whole cc0_scratch2) (Memref.whole cc0_scratch3) (Memref.whole cc0_scratch4) :=
  step_eq (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5))
    _ (hstage0_6 ((cfg0.slots t 6).cast nbuf0_6)) _ (hstage0_7 ((cfg0.slots t 7).cast nbuf0_7)) _ (hstage0_8 ((cfg0.slots t 8).cast nbuf0_8))
    _ (Memref.isWhole_whole _) _ (Memref.isWhole_whole _) _ (Memref.isWhole_whole _) _ (Memref.isWhole_whole _) _ (Memref.isWhole_whole _)

theorem off2_eq (t : Fin cfg0.N) (h : k0_cond2 (grid0.coords t) = 1#1) (u : Nat) (hu : u < 60) :
    (scales2 (grid0.coords t) h).off (BitVec.ofNat 32 u) 0 = 7680 * t.val + 128 * u := by
  have e := congrFun (k0_off1_eq (grid0.coords t) ⟨u, hu⟩) 0
  rw [← coord_eq t]
  exact e

theorem off3_eq (t : Fin cfg0.N) (h : k0_cond3 (grid0.coords t) = 1#1) (u : Nat) (hu : u < 47) :
    (scales3 (grid0.coords t) h).off (BitVec.ofNat 32 u) 0 = 7680 * t.val + 128 * u := by
  have e := congrFun (k0_off2_eq (grid0.coords t) ⟨u, hu⟩) 0
  rw [← coord_eq t]
  exact e

theorem no2_eq (t : Fin cfg0.N) (h : k0_cond2 (grid0.coords t) = 1#1) : (scales2 (grid0.coords t) h).v3 = Scalar.muli (BitVec.ofNat 32 t.val) 60#32 := by
  rw [← coord_eq t]; rfl

theorem no3_eq (t : Fin cfg0.N) (h : k0_cond3 (grid0.coords t) = 1#1) : (scales3 (grid0.coords t) h).v3 = Scalar.muli (BitVec.ofNat 32 t.val) 60#32 := by
  rw [← coord_eq t]; rfl

/-- The weight buffer is left as found: on the part the transfers move, the step's block of weights. -/
theorem fill1 (c : Dev nD) (t : Fin cfg0.N) (d) :
    win0_1.fill (grid0.coords t) ((dats m 0 c).before 1 t d) (win0_1.cut (grid0.coords t) ((inputs m c).block t.val)) = (dats m 0 c).before 1 t d := by
  refine Window.fill_congr_cut _ _ (funext fun j => ?_)
  have hx1 : win0_1.xsize (grid0.coords t) 1 = if t.val = 19 then 6016 else 7680 := xsize1 t 1
  have hj : (j 1).val < if t.val = 19 then 6016 else 7680 := hx1 ▸ (j 1).isLt
  refine before1 m c t d _ ?_
  refine lt_of_lt_of_eq hj ?_
  unfold Head.tilesOf
  split <;> rfl

/-- What the scratch buffers hold once `k` steps are done. -/
def held (c : Dev nD) (k : Nat) : sProp 𝕄 :=
  iprop(Head.has c (Memref.whole cc0_scratch0) (Head.packed (inputs m c).x)
      ∗ Head.has c (Memref.whole cc0_scratch1) (Head.scaleWide (inputs m c).x)
      ∗ Head.has c (Memref.whole cc0_scratch2) ((inputs m c).runAt k).m1
      ∗ Head.has c (Memref.whole cc0_scratch3) ((inputs m c).runAt k).m2
      ∗ Head.has c (Memref.whole cc0_scratch4) ((inputs m c).runAt k).ix
      ∗ ∃ r, prngReg c r)

theorem inv_pos (c : Dev nD) {k n : Nat} (h : k = n + 1) : inv m c k = held m c k := by subst h; rfl

/-- The window buffers as a step finds them. -/
abbrev found (c : Dev nD) (t : Fin cfg0.N) (w : Fin cfg0.W) : sProp 𝕄 :=
  iprop(∃ d, owns (c : Thread nD τ) ((cfg0.win w).stage (cfg0.slots t w)) fullShare ((dats m 0 c).before w t d))

/-- A middle step. -/
theorem body_mid (c : Dev nD) (t : Fin cfg0.N) (n : Nat) (ht : t.val = n + 1) (ht' : t.val < 19) :
    iprop((dats m 0 c).Φ t.castSucc ∗ (dats m 0 c).owesAt () t.castSucc ∗ bigSep Finset.univ fun w : Fin cfg0.W => found m c t w)
      ⊢ (wp frame (wpE (defs₀ (F := F)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W => (dats m 0 c).leaves w t) : sProp 𝕄) := by
  rw [bigSep_W0, bigSep_W0, step_at]
  have hi3 : cfg0.idle 3 (cfg0.grid.coords t) = true := (idle3 t).trans (by simp; omega)
  have hi7 : cfg0.idle 7 (cfg0.grid.coords t) = true := (idle7 t).trans (by simp; omega)
  have hd : decide (t.val = 19) = false := by simp; omega
  have h1 : ¬ k0_cond1 (grid0.coords t) = 1#1 := by rw [cond1_iff]; omega
  have h2 : k0_cond2 (grid0.coords t) = 1#1 := by rw [cond2_iff]; omega
  have h3 : ¬ k0_cond3 (grid0.coords t) = 1#1 := by rw [cond3_iff]; omega
  have hN : Head.tilesOf t.val = 60 := if_neg (by omega)
  have hΦ : (dats m 0 c).Φ t.castSucc = inv m c t.val := rfl
  have hΦ' : (dats m 0 c).Φ t.succ = inv m c (t.val + 1) := rfl
  have ho : (dats m 0 c).owesAt () t.succ = (dats m 0 c).owesAt () t.castSucc := rfl
  rw [hΦ, hΦ', ho, inv_pos m c ht, inv_pos m c (k := t.val + 1) rfl]
  unfold held
  iintro ⟨⟨Hp, Hx, H1, H2, H3, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  rw [before2 m c t d2]
  iapply (Head.mid_spec (F := F) 𝒱₀ c Set.univ (inputs m c) _ (Memref.isWhole_whole _) (scales2 (grid0.coords t)) (scales3 (grid0.coords t)) t.val ht' h1 h2 h3
    ((dats m 0 c).before 1 t d1) (fun j hj => before1 m c t d1 j (hN ▸ hj)) (no2_eq t h2) (off2_eq t h2) ((dats m 0 c).before 6 t d6))
  isplitl [W1 W2 W6 Hp Hx H1 H2 H3]
  · isplitl [W1]; · iexact W1
    isplitl [W2]; · iexact W2
    isplitl [W6]; · iexact W6
    isplitl [Hp]; · iexact Hp
    isplitl [Hx]; · iexact Hx
    isplitl [H1]; · iexact H1
    isplitl [H2]; · iexact H2
    iexact H3
  iintro ⟨W1, W2, W6, Hp, Hx, H1, H2, H3⟩
  isplitl [Hp Hx H1 H2 H3 Hr]
  · isplitl [Hp]; · iexact Hp
    isplitl [Hx]; · iexact Hx
    isplitl [H1]; · iexact H1
    isplitl [H2]; · iexact H2
    isplitl [H3]; · iexact H3
    iexact Hr
  isplitl [Ho]; · iexact Ho
  isplitl [W0]
  · iapply (Head.leaves_exact (dats m 0 c) 0 t (.inl rfl) rfl (before0 m c t d0)); iexact W0
  isplitl [W1]
  · iapply (Head.leaves_loose (dats m 0 c) 1 t rfl rfl (fill1 m c t d1)); iexact W1
  isplitl [W2]
  · iapply (Head.leaves_exact (dats m 0 c) 2 t (X := (inputs m c).s) (.inl rfl) rfl rfl); iexact W2
  isplitl [W3]
  · iapply (Head.leaves_idle (dats m 0 c) 3 t d3 hi3 ((flush_eq (flush0_3 t)).trans hd)); iexact W3
  isplitl [W4]
  · iapply (Head.leaves_idle (dats m 0 c) 4 t d4 hi3 ((flush_eq (flush0_4 t)).trans hd)); iexact W4
  isplitl [W5]
  · iapply (Head.leaves_idle (dats m 0 c) 5 t d5 hi3 ((flush_eq (flush0_5 t)).trans hd)); iexact W5
  isplitl [W6]
  · iapply (Head.leaves_loose (dats m 0 c) 6 t (idle6 t) rfl (hN ▸ fill6 m c t ((dats m 0 c).before 6 t d6))); iexact W6
  isplitl [W7]
  · iapply (Head.leaves_idle (dats m 0 c) 7 t d7 hi7 ((flush_eq (flush0_7 t)).trans hd)); iexact W7
  · iapply (Head.leaves_idle (dats m 0 c) 8 t d8 hi7 ((flush_eq (flush0_8 t)).trans hd)); iexact W8

/-- A whole buffer at given contents. -/
theorem whole_has (c : Dev nD) (b : Ref sig .tc) (f : Buf (Elt F) ((c : Thread nD τ).loc b)) :
    iprop(((c : Thread nD τ).loc b) ↦{fullShare} f) ⊢ (owns (c : Thread nD τ) (Memref.whole b) fullShare f : sProp 𝕄) := by
  rw [owns_whole_eq]
  iintro H
  iexists f
  isplitr; · ipureintro; rfl
  iexact H

/-- The scratch buffers at anything. -/
theorem held_any (c : Dev nD) (k : Nat) : held m c k ⊢ (Pipeline.ΦA spec0 c : sProp 𝕄) := by
  unfold held Pipeline.ΦA Head.has
  rw [scopedRest0_eq, owns_whole_eq, owns_whole_eq, owns_whole_eq, owns_whole_eq, owns_whole_eq]
  iintro ⟨⟨%fp, -, Hp⟩, ⟨%fx, -, Hx⟩, ⟨%f1, -, H1⟩, ⟨%f2, -, H2⟩, ⟨%f3, -, H3⟩, Hr⟩
  isplitr [Hr]
  · isplitl [Hp]; · iexists _; iexact Hp
    isplitl [Hx]; · iexists _; iexact Hx
    isplitl [H1]; · iexists _; iexact H1
    isplitl [H2]; · iexists _; iexact H2
    iexists _; iexact H3
  iexact Hr

/-- The first step. -/
theorem body_first (c : Dev nD) (t : Fin cfg0.N) (ht : t.val = 0) :
    iprop((dats m 0 c).Φ t.castSucc ∗ (dats m 0 c).owesAt () t.castSucc ∗ bigSep Finset.univ fun w : Fin cfg0.W => found m c t w)
      ⊢ (wp frame (wpE (defs₀ (F := F)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W => (dats m 0 c).leaves w t) : sProp 𝕄) := by
  rw [bigSep_W0, bigSep_W0, step_at]
  have hi3 : cfg0.idle 3 (cfg0.grid.coords t) = true := (idle3 t).trans (by simp; omega)
  have hi7 : cfg0.idle 7 (cfg0.grid.coords t) = false := (idle7 t).trans (by simp; omega)
  have hd : decide (t.val = 19) = false := by simp; omega
  have h1 : k0_cond1 (grid0.coords t) = 1#1 := by rw [cond1_iff]; omega
  have h2 : k0_cond2 (grid0.coords t) = 1#1 := by rw [cond2_iff]; omega
  have h3 : ¬ k0_cond3 (grid0.coords t) = 1#1 := by rw [cond3_iff]; omega
  have hN : Head.tilesOf t.val = 60 := if_neg (by omega)
  have hΦ : (dats m 0 c).Φ t.castSucc = inv m c t.val := rfl
  have hΦ' : (dats m 0 c).Φ t.succ = inv m c (t.val + 1) := rfl
  have ho : (dats m 0 c).owesAt () t.succ = (dats m 0 c).owesAt () t.castSucc := rfl
  have h0 : inv m c t.val = Pipeline.ΦA spec0 c := by rw [ht]; rfl
  rw [hΦ, hΦ', ho, h0, inv_pos m c (k := t.val + 1) rfl]
  unfold held Pipeline.ΦA
  rw [scopedRest0_eq]
  iintro ⟨⟨⟨⟨%fp, Hp⟩, ⟨%fx, Hx⟩, ⟨%f1, H1⟩, ⟨%f2, H2⟩, ⟨%f3, H3⟩⟩, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  rw [before0 m c t d0, before2 m c t d2]
  iapply (Head.first_spec (F := F) 𝒱₀ c Set.univ (inputs m c) _ (Memref.isWhole_whole _) (scales2 (grid0.coords t)) (scales3 (grid0.coords t)) t.val ht h1 h2 h3
    ((dats m 0 c).before 1 t d1) (fun j hj => before1 m c t d1 j (hN ▸ hj)) (no2_eq t h2) (off2_eq t h2) ((dats m 0 c).before 6 t d6)
    ((dats m 0 c).before 7 t d7) ((dats m 0 c).before 8 t d8) fp fx f1 f2 f3)
  isplitl [W0 W1 W2 W6 W7 W8 Hp Hx H1 H2 H3]
  · isplitl [W0]; · iexact W0
    isplitl [W1]; · iexact W1
    isplitl [W2]; · iexact W2
    isplitl [W6]; · iexact W6
    isplitl [W7]; · iexact W7
    isplitl [W8]; · iexact W8
    isplitl [Hp]; · iapply (whole_has c cc0_scratch0 fp); iexact Hp
    isplitl [Hx]; · iapply (whole_has c cc0_scratch1 fx); iexact Hx
    isplitl [H1]; · iapply (whole_has c cc0_scratch2 f1); iexact H1
    isplitl [H2]; · iapply (whole_has c cc0_scratch3 f2); iexact H2
    iapply (whole_has c cc0_scratch4 f3); iexact H3
  iintro ⟨W0, W1, W2, W6, W7, W8, Hp, Hx, H1, H2, H3⟩
  isplitl [Hp Hx H1 H2 H3 Hr]
  · isplitl [Hp]; · iexact Hp
    isplitl [Hx]; · iexact Hx
    isplitl [H1]; · iexact H1
    isplitl [H2]; · iexact H2
    isplitl [H3]; · iexact H3
    iexact Hr
  isplitl [Ho]; · iexact Ho
  isplitl [W0]
  · iapply (Head.leaves_exact (dats m 0 c) 0 t (X := (inputs m c).x) (.inl rfl) rfl rfl); iexact W0
  isplitl [W1]
  · iapply (Head.leaves_loose (dats m 0 c) 1 t rfl rfl (fill1 m c t d1)); iexact W1
  isplitl [W2]
  · iapply (Head.leaves_exact (dats m 0 c) 2 t (X := (inputs m c).s) (.inl rfl) rfl rfl); iexact W2
  isplitl [W3]
  · iapply (Head.leaves_idle (dats m 0 c) 3 t d3 hi3 ((flush_eq (flush0_3 t)).trans hd)); iexact W3
  isplitl [W4]
  · iapply (Head.leaves_idle (dats m 0 c) 4 t d4 hi3 ((flush_eq (flush0_4 t)).trans hd)); iexact W4
  isplitl [W5]
  · iapply (Head.leaves_idle (dats m 0 c) 5 t d5 hi3 ((flush_eq (flush0_5 t)).trans hd)); iexact W5
  isplitl [W6]
  · iapply (Head.leaves_loose (dats m 0 c) 6 t (idle6 t) rfl (hN ▸ fill6 m c t ((dats m 0 c).before 6 t d6))); iexact W6
  isplitl [W7]
  · iapply (Head.leaves_exact (dats m 0 c) 7 t (X := (fptosi 8 (Head.codesF (inputs m c).x) : IVec Head.S96x896 8)) (.inl hi7) rfl rfl); iexact W7
  · iapply (Head.leaves_exact (dats m 0 c) 8 t (X := Head.turned (Head.scaleWide (inputs m c).x)) (.inl hi7) rfl rfl); iexact W8

theorem after5 (c : Dev nD) (t : Fin cfg0.N) : (dats m 0 c).after 5 t = (inputs m c).last.top := by
  unfold dats
  rfl

/-- The last step. -/
theorem body_last (c : Dev nD) (t : Fin cfg0.N) (n : Nat) (ht : t.val = n + 1) (ht' : t.val = 19) :
    iprop((dats m 0 c).Φ t.castSucc ∗ (dats m 0 c).owesAt () t.castSucc ∗ bigSep Finset.univ fun w : Fin cfg0.W => found m c t w)
      ⊢ (wp frame (wpE (defs₀ (F := F)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W => (dats m 0 c).leaves w t) : sProp 𝕄) := by
  rw [bigSep_W0, bigSep_W0, step_at]
  have hi3 : cfg0.idle 3 (cfg0.grid.coords t) = false := (idle3 t).trans (by simp; omega)
  have hd : decide (t.val = 19) = true := by simp; omega
  have h1 : ¬ k0_cond1 (grid0.coords t) = 1#1 := by rw [cond1_iff]; omega
  have h2 : ¬ k0_cond2 (grid0.coords t) = 1#1 := by rw [cond2_iff]; omega
  have h3 : k0_cond3 (grid0.coords t) = 1#1 := by rw [cond3_iff]; omega
  have hN : Head.tilesOf t.val = 47 := if_pos ht'
  have h20 : (inputs m c).runAt (t.val + 1) = (inputs m c).last := by rw [ht']; rfl
  have h20tok : ((inputs m c).runAt (t.val + 1)).tok = (dats m 0 c).after 3 t := by
    show _ = (inputs m c).last.tok
    rw [h20]
  have h20margin : ((inputs m c).runAt (t.val + 1)).margin = (dats m 0 c).after 4 t := by
    show _ = (inputs m c).last.margin
    rw [h20]
  have h20top : ((inputs m c).runAt (t.val + 1)).top = (dats m 0 c).after 5 t := by
    rw [h20, after5]
  have hΦ : (dats m 0 c).Φ t.castSucc = inv m c t.val := rfl
  have hΦ' : (dats m 0 c).Φ t.succ = inv m c (t.val + 1) := rfl
  have ho : (dats m 0 c).owesAt () t.succ = (dats m 0 c).owesAt () t.castSucc := rfl
  rw [hΦ, hΦ', ho, inv_pos m c ht, inv_pos m c (k := t.val + 1) rfl]
  unfold held
  iintro ⟨⟨Hp, Hx, H1, H2, H3, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  rw [before2 m c t d2]
  iapply (Head.last_spec (F := F) 𝒱₀ c Set.univ (inputs m c) _ (Memref.isWhole_whole _) (scales2 (grid0.coords t)) (scales3 (grid0.coords t)) t.val ht' h1 h2 h3
    ((dats m 0 c).before 1 t d1) (fun j hj => before1 m c t d1 j (hN ▸ hj)) (no3_eq t h3) (off3_eq t h3) ((dats m 0 c).before 6 t d6)
    ((dats m 0 c).before 3 t d3) ((dats m 0 c).before 4 t d4) ((dats m 0 c).before 5 t d5))
  isplitl [W1 W2 W3 W4 W5 W6 Hp Hx H1 H2 H3]
  · isplitl [W1]; · iexact W1
    isplitl [W2]; · iexact W2
    isplitl [W3]; · iexact W3
    isplitl [W4]; · iexact W4
    isplitl [W5]; · iexact W5
    isplitl [W6]; · iexact W6
    isplitl [Hp]; · iexact Hp
    isplitl [Hx]; · iexact Hx
    isplitl [H1]; · iexact H1
    isplitl [H2]; · iexact H2
    iexact H3
  iintro ⟨W1, W2, W3, W4, W5, W6, Hp, Hx, H1, H2, H3⟩
  isplitl [Hp Hx H1 H2 H3 Hr]
  · isplitl [Hp]; · iexact Hp
    isplitl [Hx]; · iexact Hx
    isplitl [H1]; · iexact H1
    isplitl [H2]; · iexact H2
    isplitl [H3]; · iexact H3
    iexact Hr
  isplitl [Ho]; · iexact Ho
  isplitl [W0]
  · iapply (Head.leaves_exact (dats m 0 c) 0 t (.inl rfl) rfl (before0 m c t d0)); iexact W0
  isplitl [W1]
  · iapply (Head.leaves_loose (dats m 0 c) 1 t rfl rfl (fill1 m c t d1)); iexact W1
  isplitl [W2]
  · iapply (Head.leaves_exact (dats m 0 c) 2 t (X := (inputs m c).s) (.inl rfl) rfl rfl); iexact W2
  isplitl [W3]
  · iapply (Head.leaves_exact (dats m 0 c) 3 t (.inl hi3) rfl h20tok); iexact W3
  isplitl [W4]
  · iapply (Head.leaves_exact (dats m 0 c) 4 t (.inl hi3) rfl h20margin); iexact W4
  isplitl [W5]
  · iapply (Head.leaves_exact (dats m 0 c) 5 t (.inl hi3) rfl h20top); iexact W5
  isplitl [W6]
  · iapply (Head.leaves_loose (dats m 0 c) 6 t (idle6 t) rfl (hN ▸ fill6 m c t ((dats m 0 c).before 6 t d6))); iexact W6
  isplitl [W7]
  · iapply (Head.leaves_exact (dats m 0 c) 7 t (.inr ((flush_eq (flush0_7 t)).trans hd)) rfl (before7 m c d7 n t ht)); iexact W7
  · iapply (Head.leaves_exact (dats m 0 c) 8 t (.inr ((flush_eq (flush0_8 t)).trans hd)) rfl (before8 m c d8 n t ht)); iexact W8

/-- Every step meets its obligation. -/
theorem body_obligation (c : Dev nD) : BodyObligationLoose (dats m 0 c) (defs₀ (F := F)) 𝒱₀ () Set.univ := fun t => by
  have hlt := point_lt t
  rcases Nat.eq_zero_or_pos t.val with h | h
  · exact body_first m c t h
  · rcases Nat.lt_or_ge t.val 19 with h' | h'
    · exact body_mid m c t (t.val - 1) (by omega) h'
    · exact body_last m c t (t.val - 1) (by omega) (by omega)

/-! ## The run -/

set_option backward.isDefEq.respectTransparency.types false in
/-- Every execution ends, with each array of the pipeline and every other array at stated contents and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main (body_obligation m)
    (fun c => (dats m 0 c).share_full fun _ => rfl) (fun _ _ => rfl) (V0 m) [hostOps1] sfx_sub sfx_fresh sfx_keeps (hmain m 𝒱₀) (fun _ _ => rfl)
    (fun c => .rfl) (fun c => held_any m c 20) _ (fun _ h => h)

/-- Every execution ends, with the argument arrays as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c))⟩, h.2⟩) (run_main m ρ)

end Cert.Kernel.Proof

end
-- ==== Proof.Head.StepKernelIdeal.lean ====
/-
  The grid step of `KernelIdeal` as printed is the loop program of Head/Program.lean.
-/
module

public import proofs.«01_k».proof.KernelIdeal
public import proofs.«01_k».proof.Proof.Head.Program
public import Idealize.ShloMosaic.Lib.Tactic

@[expose] public section

noncomputable section

namespace Cert.KernelIdeal

open Idealize.ShloMosaic Idealize.SL.Sem

variable {F : FTy → Type} [FloatOps F]
variable [Facts]
open Facts₀ Facts

/-- The column scales of a step before the last. -/
def scales2 (i : grid0.Coords) (h : k0_cond2 i = 1#1) : Head.Scales 60 :=
  ⟨Scalar.muli (BitVec.ofNat 32 (i 0).val) 60#32, k0_off1 i, k0_off1_inb i h⟩

/-- The column scales of the last step. -/
def scales3 (i : grid0.Coords) (h : k0_cond3 i = 1#1) : Head.Scales 47 :=
  ⟨Scalar.muli (BitVec.ofNat 32 (i 0).val) 60#32, k0_off2 i, k0_off2_inb i h⟩

set_option maxHeartbeats 0 in
set_option maxRecDepth 100000 in
/-- The printed grid step, unrolled over tiles and row groups, is the loop program. -/
theorem step_eq (i : grid0.Coords) (arg1 : Memref sig .tc .vmem S96x896 .bf16) (harg1 : arg1.IsWhole) (arg2 : Memref sig .tc .vmem S448x7680 .i8) (harg2 : arg2.IsWhole) (arg3 : Memref sig .tc .vmem S151936 .f32) (harg3 : arg3.IsWhole) (arg4 : Memref sig .tc .vmem S1x96 .i32) (harg4 : arg4.IsWhole) (arg5 : Memref sig .tc .vmem S1x96 .f32) (harg5 : arg5.IsWhole) (arg6 : Memref sig .tc .vmem S1x96 .f32) (harg6 : arg6.IsWhole) (arg7 : Memref sig .tc .vmem S96x1x7680 .f32) (harg7 : arg7.IsWhole) (arg8 : Memref sig .tc .vmem S96x896 .i8) (harg8 : arg8.IsWhole) (arg9 : Memref sig .tc .vmem S1x96 .f32) (harg9 : arg9.IsWhole) (arg10 : Memref sig .tc .vmem S96x896 .bf16) (harg10 : arg10.IsWhole) (arg11 : Memref sig .tc .vmem S96x128 .f32) (harg11 : arg11.IsWhole) (arg12 : Memref sig .tc .vmem S96x128 .f32) (harg12 : arg12.IsWhole) (arg13 : Memref sig .tc .vmem S96x128 .f32) (harg13 : arg13.IsWhole) (arg14 : Memref sig .tc .vmem S96x128 .i32) (harg14 : arg14.IsWhole) :
    cc0_w4a8_head_top2 (F := F) i arg1 harg1 arg2 harg2 arg3 harg3 arg4 harg4 arg5 harg5 arg6 harg6 arg7 harg7 arg8 harg8 arg9 harg9 arg10 harg10 arg11 harg11 arg12 harg12 arg13 harg13 arg14 harg14 =
      Head.body (k0_cond1 i) (k0_cond2 i) (k0_cond3 i) (scales2 i) (scales3 i) arg1 arg2 arg3 arg4 arg5 arg6 arg7 arg8 harg8 arg9
        arg10 harg10 arg11 arg12 arg13 arg14 := by
  sl_kernel_rfl

end Cert.KernelIdeal

end
-- ==== Proof.Head.RunKernelIdeal.lean ====
/-
  `KernelIdeal` run: the proof data of its pipeline, the grid step's obligation, and what every final state holds.
-/
module

public import proofs.«01_k».proof.Proof.Head.Grid
public import proofs.«01_k».proof.Proof.Head.StepKernelIdeal
public import proofs.«01_k».proof.Proof.Gen.KernelIdeal.Frame

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's operands as the region finds them. -/
def inputs (c : Dev nD) : Head.Inputs F where
  x := V m c main_v0
  w := V m c main_v1
  s := V m c main_arg2

/-- The scratch buffers and the random-number register before step `t`: anything at first, the interleaved codes, the rows' scales and
    the running arrays later. -/
def inv (c : Dev nD) : Nat → sProp 𝕄
  | 0 => Pipeline.ΦA spec0 c
  | t + 1 => iprop(Head.has c (Memref.whole cc0_scratch0) (Head.packed (inputs m c).x) ∗ Head.has c (Memref.whole cc0_scratch1) (Head.scaleWide (inputs m c).x)
      ∗ Head.has c (Memref.whole cc0_scratch2) ((inputs m c).runAt (t + 1)).m1 ∗ Head.has c (Memref.whole cc0_scratch3) ((inputs m c).runAt (t + 1)).m2
      ∗ Head.has (F := F) c (Memref.whole cc0_scratch4) ((inputs m c).runAt (t + 1)).ix ∗ ∃ r, prngReg c r)

/-- The proof data: the arrays at the region's entry, what the staging buffers hold after each step, and the scratch buffers between steps. -/
def dats (_ : Fin 1) (c : Dev nD) : Dat τ (Elt F) Unit ℕ (UR sig nD τ) ℕ cfg0 c where
  A w := V m c (Pipeline.arrRef spec0 w)
  after w t := match w with
    | ⟨0, _⟩ => (inputs m c).x
    | ⟨1, _⟩ => (inputs m c).block t.val
    | ⟨2, _⟩ => (inputs m c).s
    | ⟨3, _⟩ => (inputs m c).last.tok
    | ⟨4, _⟩ => (inputs m c).last.margin
    | ⟨5, _⟩ => (inputs m c).last.top
    | ⟨6, _⟩ => (inputs m c).logits t.val
    | ⟨7, _⟩ => (fptosi 8 (Head.codesF (inputs m c).x) : IVec Head.S96x896 8)
    | ⟨8, _⟩ => Head.turned (Head.scaleWide (inputs m c).x)
  Φ t := inv m c t.val
  q _ := fullShare
  owed _ := 0

/-- The kernel's variants: none. -/
abbrev 𝒱₀ : Variants := Variants.none

attribute [local irreducible] Head.Run.tok Head.Run.margin Head.Run.top

/-! ## The grid's points -/

theorem coord_eq : ∀ t : Fin cfg0.N, (grid0.coords t 0).val = t.val := by decide
theorem cond1_iff : ∀ t : Fin cfg0.N, k0_cond1 (grid0.coords t) = 1#1 ↔ t.val = 0 := by decide
theorem cond2_iff : ∀ t : Fin cfg0.N, k0_cond2 (grid0.coords t) = 1#1 ↔ t.val < 19 := by decide
theorem cond3_iff : ∀ t : Fin cfg0.N, k0_cond3 (grid0.coords t) = 1#1 ↔ t.val = 19 := by decide
theorem point_lt (t : Fin cfg0.N) : t.val < 20 := t.isLt

/-! ## What each staging buffer holds when a step begins -/

/-- The activations' block is the whole array. -/
theorem iblk0 (c : Dev nD) (t : Fin cfg0.N) : iblk m c 0 t = (inputs m c).x := by
  funext j
  show V m c main_v0 _ = V m c main_v0 j
  refine congrArg (V m c main_v0) (funext fun a => Fin.ext ?_)
  match a with
  | 0 => show 0 * 96 + 1 * (j 0).val = (j 0).val; omega
  | 1 => show 0 * 896 + 1 * (j 1).val = (j 1).val; omega

/-- The column scales' block is the whole array. -/
theorem iblk2 (c : Dev nD) (t : Fin cfg0.N) : iblk m c 2 t = (inputs m c).s := by
  funext j
  show V m c main_arg2 _ = V m c main_arg2 j
  refine congrArg (V m c main_arg2) (funext fun a => Fin.ext ?_)
  match a with
  | 0 => show 0 * 151936 + 1 * (j 0).val = (j 0).val; omega

theorem before0 (c : Dev nD) (t : Fin cfg0.N) (d) : (dats m 0 c).before 0 t d = (inputs m c).x :=
  (before0_0_of m (dats m 0 c) rfl (fun t => (iblk0 m c t).symm) t d).trans (iblk0 m c t)

theorem before2 (c : Dev nD) (t : Fin cfg0.N) (d) : (dats m 0 c).before 2 t d = (inputs m c).s :=
  (before0_2_of m (dats m 0 c) rfl (fun t => (iblk2 m c t).symm) t d).trans (iblk2 m c t)

theorem xsize1 : ∀ (t : Fin cfg0.N) (a : Fin 2), win0_1.xsize (grid0.coords t) a = ![448, if t.val = 19 then 6016 else 7680] a := by decide

/-- The columns of a weight block that a step works hold the weights. -/
theorem before1 (c : Dev nD) (t : Fin cfg0.N) (d) (j : Head.S448x7680.Idx) (hj : (j 1).val < 128 * Head.tilesOf t.val) :
    (dats m 0 c).before 1 t d j = (inputs m c).block t.val j := by
  have hx0 : win0_1.xsize (grid0.coords t) 0 = 448 := xsize1 t 0
  have hx1 : win0_1.xsize (grid0.coords t) 1 = if t.val = 19 then 6016 else 7680 := xsize1 t 1
  have h0 : (j 0).val < 448 := (j 0).isLt
  have hmv : win0_1.moved (grid0.coords t) j = true := by
    refine (win0_1.moved_iff _ j).mpr fun a => ?_
    match a with
    | 0 => exact hx0 ▸ h0
    | 1 =>
      refine lt_of_lt_of_eq hj (Eq.trans ?_ hx1.symm)
      unfold Head.tilesOf
      split <;> rfl
  have hlt := t.isLt
  have hb : (dats m 0 c).before 1 t d = win0_1.fill (grid0.coords t) d (iblk m c 1 t) := by
    rw [Dat.before_fetched _ _ _ (fetch0_1 t)]; rfl
  rw [hb]
  unfold Window.fill
  rw [dif_pos hmv]
  have hj' : 7680 * t.val + (j 1).val < 151936 := by
    unfold Head.tilesOf at hj
    have := point_lt t
    split at hj <;> omega
  show V m c main_v1 _ = V m c main_v1 _
  refine congrArg (V m c main_v1) (funext fun a => Fin.ext ?_)
  match a with
  | 0 => show 0 * 448 + 1 * (j 0).val = (j 0).val; omega
  | 1 =>
    show (cc0_transform_1 (grid0.coords t) 1) * 7680 + 1 * (j 1).val = (7680 * t.val + (j 1).val) % 151936
    have : cc0_transform_1 (grid0.coords t) 1 = t.val := (by decide : ∀ t : Fin cfg0.N, cc0_transform_1 (grid0.coords t) 1 = t.val) t
    rw [this, Nat.mod_eq_of_lt hj']
    omega

theorem idle3 (t : Fin cfg0.N) : cfg0.idle 3 (grid0.coords t) = !decide (t.val = 19) := (by decide : ∀ t : Fin cfg0.N, cfg0.idle 3 (grid0.coords t) = !decide (t.val = 19)) t
theorem idle4 (t : Fin cfg0.N) : cfg0.idle 4 (grid0.coords t) = !decide (t.val = 19) := idle3 t
theorem idle5 (t : Fin cfg0.N) : cfg0.idle 5 (grid0.coords t) = !decide (t.val = 19) := idle3 t
theorem idle6 (t : Fin cfg0.N) : cfg0.idle 6 (grid0.coords t) = false := (by decide : ∀ t : Fin cfg0.N, cfg0.idle 6 (grid0.coords t) = false) t
theorem idle7 (t : Fin cfg0.N) : cfg0.idle 7 (grid0.coords t) = !decide (t.val = 0) := (by decide : ∀ t : Fin cfg0.N, cfg0.idle 7 (grid0.coords t) = !decide (t.val = 0)) t
theorem idle8 (t : Fin cfg0.N) : cfg0.idle 8 (grid0.coords t) = !decide (t.val = 0) := idle7 t

theorem flush_eq {w : Fin 9} {t : Fin cfg0.N} (h : (cfg0.win w).flush t = true ↔ t.val % 20 = 19) : (cfg0.win w).flush t = decide (t.val = 19) := by
  have := point_lt t
  rw [Bool.eq_iff_iff, h, decide_eq_true_iff]
  omega

/-- After the first step the codes' buffer holds the codes. -/
theorem before7 (c : Dev nD) (d) : ∀ (n : Nat) (t : Fin cfg0.N), t.val = n + 1 → (dats m 0 c).before 7 t d = (fptosi 8 (Head.codesF (inputs m c).x) : IVec Head.S96x896 8)
  | n, t, ht => by
    have hlt := point_lt t
    rw [Dat.before_of_pos _ 7 t (by omega) (Window.fetch_out _ rfl t), flush_eq (flush0_7 _), if_neg (by rw [decide_eq_true_iff]; show ¬ t.val - 1 = 19; omega)]
    unfold Dat.left
    rw [show cfg0.idle 7 (cfg0.grid.coords ⟨t.val - 1, Nat.lt_of_le_of_lt (Nat.sub_le _ _) t.isLt⟩) = !decide (t.val - 1 = 0) from idle7 ⟨t.val - 1, _⟩]
    match n with
    | 0 =>
      rw [show (!decide (t.val - 1 = 0)) = false by simp [ht]]
      rfl
    | n + 1 =>
      rw [show (!decide (t.val - 1 = 0)) = true by simp [ht]]
      exact before7 c d n ⟨t.val - 1, by show t.val - 1 < 20; omega⟩ (by show t.val - 1 = n + 1; omega)

/-- After the first step the scales' buffer holds the rows' scales. -/
theorem before8 (c : Dev nD) (d) : ∀ (n : Nat) (t : Fin cfg0.N), t.val = n + 1 → (dats m 0 c).before 8 t d = Head.turned (Head.scaleWide (inputs m c).x)
  | n, t, ht => by
    have hlt := point_lt t
    rw [Dat.before_of_pos _ 8 t (by omega) (Window.fetch_out _ rfl t), flush_eq (flush0_8 _), if_neg (by rw [decide_eq_true_iff]; show ¬ t.val - 1 = 19; omega)]
    unfold Dat.left
    rw [show cfg0.idle 8 (cfg0.grid.coords ⟨t.val - 1, Nat.lt_of_le_of_lt (Nat.sub_le _ _) t.isLt⟩) = !decide (t.val - 1 = 0) from idle8 ⟨t.val - 1, _⟩]
    match n with
    | 0 =>
      rw [show (!decide (t.val - 1 = 0)) = false by simp [ht]]
      rfl
    | n + 1 =>
      rw [show (!decide (t.val - 1 = 0)) = true by simp [ht]]
      exact before8 c d n ⟨t.val - 1, by show t.val - 1 < 20; omega⟩ (by show t.val - 1 = n + 1; omega)

theorem xsize6 : ∀ (t : Fin cfg0.N) (a : Fin 3), win0_6.xsize (grid0.coords t) a = ![96, 1, 128 * Head.tilesOf t.val] a := by decide

/-- The part of the logits' buffer that is written back is the step's block of logits. -/
theorem fill6 (c : Dev nD) (t : Fin cfg0.N) (O : Vec F Head.S96x1x7680 .f32) :
    win0_6.fill (grid0.coords t) (Head.put ((inputs m c).tile t.val) 0 (Head.tilesOf t.val) O) (win0_6.cut (grid0.coords t) ((inputs m c).logits t.val))
      = Head.put ((inputs m c).tile t.val) 0 (Head.tilesOf t.val) O := by
  refine Window.fill_congr_cut _ _ (funext fun j => ?_)
  have hx : win0_6.xsize (grid0.coords t) 2 = 128 * Head.tilesOf t.val := xsize6 t 2
  have hj : (j 2).val < 128 * Head.tilesOf t.val := hx ▸ (j 2).isLt
  exact if_pos ⟨by omega, show (j 2).val / 128 < _ by omega⟩

/-! ## The grid step's obligation -/

/-- The grid step as the pipeline calls it. -/
theorem step_at (t : Fin cfg0.N) :
    (defs₀ (F := F) .tc cfg0.body (cfg0.bodyArgs t (cfg0.slots t)))
      = Head.body (k0_cond1 (grid0.coords t)) (k0_cond2 (grid0.coords t)) (k0_cond3 (grid0.coords t)) (scales2 (grid0.coords t)) (scales3 (grid0.coords t))
          ((cfg0.win 0).stage (cfg0.slots t 0)) ((cfg0.win 1).stage (cfg0.slots t 1)) ((cfg0.win 2).stage (cfg0.slots t 2)) ((cfg0.win 3).stage (cfg0.slots t 3))
          ((cfg0.win 4).stage (cfg0.slots t 4)) ((cfg0.win 5).stage (cfg0.slots t 5)) ((cfg0.win 6).stage (cfg0.slots t 6)) ((cfg0.win 7).stage (cfg0.slots t 7))
          (hstage0_7 ((cfg0.slots t 7).cast nbuf0_7)) ((cfg0.win 8).stage (cfg0.slots t 8)) (Memref.whole cc0_scratch0) (Memref.isWhole_whole _) (Memref.whole cc0_scratch1)
          (Memref.whole cc0_scratch2) (Memref.whole cc0_scratch3) (Memref.whole cc0_scratch4) :=
  step_eq (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5))
    _ (hstage0_6 ((cfg0.slots t 6).cast nbuf0_6)) _ (hstage0_7 ((cfg0.slots t 7).cast nbuf0_7)) _ (hstage0_8 ((cfg0.slots t 8).cast nbuf0_8))
    _ (Memref.isWhole_whole _) _ (Memref.isWhole_whole _) _ (Memref.isWhole_whole _) _ (Memref.isWhole_whole _) _ (Memref.isWhole_whole _)

theorem off2_eq (t : Fin cfg0.N) (h : k0_cond2 (grid0.coords t) = 1#1) (u : Nat) (hu : u < 60) :
    (scales2 (grid0.coords t) h).off (BitVec.ofNat 32 u) 0 = 7680 * t.val + 128 * u := by
  have e := congrFun (k0_off1_eq (grid0.coords t) ⟨u, hu⟩) 0
  rw [← coord_eq t]
  exact e

theorem off3_eq (t : Fin cfg0.N) (h : k0_cond3 (grid0.coords t) = 1#1) (u : Nat) (hu : u < 47) :
    (scales3 (grid0.coords t) h).off (BitVec.ofNat 32 u) 0 = 7680 * t.val + 128 * u := by
  have e := congrFun (k0_off2_eq (grid0.coords t) ⟨u, hu⟩) 0
  rw [← coord_eq t]
  exact e

theorem no2_eq (t : Fin cfg0.N) (h : k0_cond2 (grid0.coords t) = 1#1) : (scales2 (grid0.coords t) h).v3 = Scalar.muli (BitVec.ofNat 32 t.val) 60#32 := by
  rw [← coord_eq t]; rfl

theorem no3_eq (t : Fin cfg0.N) (h : k0_cond3 (grid0.coords t) = 1#1) : (scales3 (grid0.coords t) h).v3 = Scalar.muli (BitVec.ofNat 32 t.val) 60#32 := by
  rw [← coord_eq t]; rfl

/-- The weight buffer is left as found: on the part the transfers move, the step's block of weights. -/
theorem fill1 (c : Dev nD) (t : Fin cfg0.N) (d) :
    win0_1.fill (grid0.coords t) ((dats m 0 c).before 1 t d) (win0_1.cut (grid0.coords t) ((inputs m c).block t.val)) = (dats m 0 c).before 1 t d := by
  refine Window.fill_congr_cut _ _ (funext fun j => ?_)
  have hx1 : win0_1.xsize (grid0.coords t) 1 = if t.val = 19 then 6016 else 7680 := xsize1 t 1
  have hj : (j 1).val < if t.val = 19 then 6016 else 7680 := hx1 ▸ (j 1).isLt
  refine before1 m c t d _ ?_
  refine lt_of_lt_of_eq hj ?_
  unfold Head.tilesOf
  split <;> rfl

/-- What the scratch buffers hold once `k` steps are done. -/
def held (c : Dev nD) (k : Nat) : sProp 𝕄 :=
  iprop(Head.has c (Memref.whole cc0_scratch0) (Head.packed (inputs m c).x)
      ∗ Head.has c (Memref.whole cc0_scratch1) (Head.scaleWide (inputs m c).x)
      ∗ Head.has c (Memref.whole cc0_scratch2) ((inputs m c).runAt k).m1
      ∗ Head.has c (Memref.whole cc0_scratch3) ((inputs m c).runAt k).m2
      ∗ Head.has c (Memref.whole cc0_scratch4) ((inputs m c).runAt k).ix
      ∗ ∃ r, prngReg c r)

theorem inv_pos (c : Dev nD) {k n : Nat} (h : k = n + 1) : inv m c k = held m c k := by subst h; rfl

/-- The window buffers as a step finds them. -/
abbrev found (c : Dev nD) (t : Fin cfg0.N) (w : Fin cfg0.W) : sProp 𝕄 :=
  iprop(∃ d, owns (c : Thread nD τ) ((cfg0.win w).stage (cfg0.slots t w)) fullShare ((dats m 0 c).before w t d))

/-- A middle step. -/
theorem body_mid (c : Dev nD) (t : Fin cfg0.N) (n : Nat) (ht : t.val = n + 1) (ht' : t.val < 19) :
    iprop((dats m 0 c).Φ t.castSucc ∗ (dats m 0 c).owesAt () t.castSucc ∗ bigSep Finset.univ fun w : Fin cfg0.W => found m c t w)
      ⊢ (wp frame (wpE (defs₀ (F := F)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W => (dats m 0 c).leaves w t) : sProp 𝕄) := by
  rw [bigSep_W0, bigSep_W0, step_at]
  have hi3 : cfg0.idle 3 (cfg0.grid.coords t) = true := (idle3 t).trans (by simp; omega)
  have hi7 : cfg0.idle 7 (cfg0.grid.coords t) = true := (idle7 t).trans (by simp; omega)
  have hd : decide (t.val = 19) = false := by simp; omega
  have h1 : ¬ k0_cond1 (grid0.coords t) = 1#1 := by rw [cond1_iff]; omega
  have h2 : k0_cond2 (grid0.coords t) = 1#1 := by rw [cond2_iff]; omega
  have h3 : ¬ k0_cond3 (grid0.coords t) = 1#1 := by rw [cond3_iff]; omega
  have hN : Head.tilesOf t.val = 60 := if_neg (by omega)
  have hΦ : (dats m 0 c).Φ t.castSucc = inv m c t.val := rfl
  have hΦ' : (dats m 0 c).Φ t.succ = inv m c (t.val + 1) := rfl
  have ho : (dats m 0 c).owesAt () t.succ = (dats m 0 c).owesAt () t.castSucc := rfl
  rw [hΦ, hΦ', ho, inv_pos m c ht, inv_pos m c (k := t.val + 1) rfl]
  unfold held
  iintro ⟨⟨Hp, Hx, H1, H2, H3, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  rw [before2 m c t d2]
  iapply (Head.mid_spec (F := F) 𝒱₀ c Set.univ (inputs m c) _ (Memref.isWhole_whole _) (scales2 (grid0.coords t)) (scales3 (grid0.coords t)) t.val ht' h1 h2 h3
    ((dats m 0 c).before 1 t d1) (fun j hj => before1 m c t d1 j (hN ▸ hj)) (no2_eq t h2) (off2_eq t h2) ((dats m 0 c).before 6 t d6))
  isplitl [W1 W2 W6 Hp Hx H1 H2 H3]
  · isplitl [W1]; · iexact W1
    isplitl [W2]; · iexact W2
    isplitl [W6]; · iexact W6
    isplitl [Hp]; · iexact Hp
    isplitl [Hx]; · iexact Hx
    isplitl [H1]; · iexact H1
    isplitl [H2]; · iexact H2
    iexact H3
  iintro ⟨W1, W2, W6, Hp, Hx, H1, H2, H3⟩
  isplitl [Hp Hx H1 H2 H3 Hr]
  · isplitl [Hp]; · iexact Hp
    isplitl [Hx]; · iexact Hx
    isplitl [H1]; · iexact H1
    isplitl [H2]; · iexact H2
    isplitl [H3]; · iexact H3
    iexact Hr
  isplitl [Ho]; · iexact Ho
  isplitl [W0]
  · iapply (Head.leaves_exact (dats m 0 c) 0 t (.inl rfl) rfl (before0 m c t d0)); iexact W0
  isplitl [W1]
  · iapply (Head.leaves_loose (dats m 0 c) 1 t rfl rfl (fill1 m c t d1)); iexact W1
  isplitl [W2]
  · iapply (Head.leaves_exact (dats m 0 c) 2 t (X := (inputs m c).s) (.inl rfl) rfl rfl); iexact W2
  isplitl [W3]
  · iapply (Head.leaves_idle (dats m 0 c) 3 t d3 hi3 ((flush_eq (flush0_3 t)).trans hd)); iexact W3
  isplitl [W4]
  · iapply (Head.leaves_idle (dats m 0 c) 4 t d4 hi3 ((flush_eq (flush0_4 t)).trans hd)); iexact W4
  isplitl [W5]
  · iapply (Head.leaves_idle (dats m 0 c) 5 t d5 hi3 ((flush_eq (flush0_5 t)).trans hd)); iexact W5
  isplitl [W6]
  · iapply (Head.leaves_loose (dats m 0 c) 6 t (idle6 t) rfl (hN ▸ fill6 m c t ((dats m 0 c).before 6 t d6))); iexact W6
  isplitl [W7]
  · iapply (Head.leaves_idle (dats m 0 c) 7 t d7 hi7 ((flush_eq (flush0_7 t)).trans hd)); iexact W7
  · iapply (Head.leaves_idle (dats m 0 c) 8 t d8 hi7 ((flush_eq (flush0_8 t)).trans hd)); iexact W8

/-- A whole buffer at given contents. -/
theorem whole_has (c : Dev nD) (b : Ref sig .tc) (f : Buf (Elt F) ((c : Thread nD τ).loc b)) :
    iprop(((c : Thread nD τ).loc b) ↦{fullShare} f) ⊢ (owns (c : Thread nD τ) (Memref.whole b) fullShare f : sProp 𝕄) := by
  rw [owns_whole_eq]
  iintro H
  iexists f
  isplitr; · ipureintro; rfl
  iexact H

/-- The scratch buffers at anything. -/
theorem held_any (c : Dev nD) (k : Nat) : held m c k ⊢ (Pipeline.ΦA spec0 c : sProp 𝕄) := by
  unfold held Pipeline.ΦA Head.has
  rw [scopedRest0_eq, owns_whole_eq, owns_whole_eq, owns_whole_eq, owns_whole_eq, owns_whole_eq]
  iintro ⟨⟨%fp, -, Hp⟩, ⟨%fx, -, Hx⟩, ⟨%f1, -, H1⟩, ⟨%f2, -, H2⟩, ⟨%f3, -, H3⟩, Hr⟩
  isplitr [Hr]
  · isplitl [Hp]; · iexists _; iexact Hp
    isplitl [Hx]; · iexists _; iexact Hx
    isplitl [H1]; · iexists _; iexact H1
    isplitl [H2]; · iexists _; iexact H2
    iexists _; iexact H3
  iexact Hr

/-- The first step. -/
theorem body_first (c : Dev nD) (t : Fin cfg0.N) (ht : t.val = 0) :
    iprop((dats m 0 c).Φ t.castSucc ∗ (dats m 0 c).owesAt () t.castSucc ∗ bigSep Finset.univ fun w : Fin cfg0.W => found m c t w)
      ⊢ (wp frame (wpE (defs₀ (F := F)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W => (dats m 0 c).leaves w t) : sProp 𝕄) := by
  rw [bigSep_W0, bigSep_W0, step_at]
  have hi3 : cfg0.idle 3 (cfg0.grid.coords t) = true := (idle3 t).trans (by simp; omega)
  have hi7 : cfg0.idle 7 (cfg0.grid.coords t) = false := (idle7 t).trans (by simp; omega)
  have hd : decide (t.val = 19) = false := by simp; omega
  have h1 : k0_cond1 (grid0.coords t) = 1#1 := by rw [cond1_iff]; omega
  have h2 : k0_cond2 (grid0.coords t) = 1#1 := by rw [cond2_iff]; omega
  have h3 : ¬ k0_cond3 (grid0.coords t) = 1#1 := by rw [cond3_iff]; omega
  have hN : Head.tilesOf t.val = 60 := if_neg (by omega)
  have hΦ : (dats m 0 c).Φ t.castSucc = inv m c t.val := rfl
  have hΦ' : (dats m 0 c).Φ t.succ = inv m c (t.val + 1) := rfl
  have ho : (dats m 0 c).owesAt () t.succ = (dats m 0 c).owesAt () t.castSucc := rfl
  have h0 : inv m c t.val = Pipeline.ΦA spec0 c := by rw [ht]; rfl
  rw [hΦ, hΦ', ho, h0, inv_pos m c (k := t.val + 1) rfl]
  unfold held Pipeline.ΦA
  rw [scopedRest0_eq]
  iintro ⟨⟨⟨⟨%fp, Hp⟩, ⟨%fx, Hx⟩, ⟨%f1, H1⟩, ⟨%f2, H2⟩, ⟨%f3, H3⟩⟩, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  rw [before0 m c t d0, before2 m c t d2]
  iapply (Head.first_spec (F := F) 𝒱₀ c Set.univ (inputs m c) _ (Memref.isWhole_whole _) (scales2 (grid0.coords t)) (scales3 (grid0.coords t)) t.val ht h1 h2 h3
    ((dats m 0 c).before 1 t d1) (fun j hj => before1 m c t d1 j (hN ▸ hj)) (no2_eq t h2) (off2_eq t h2) ((dats m 0 c).before 6 t d6)
    ((dats m 0 c).before 7 t d7) ((dats m 0 c).before 8 t d8) fp fx f1 f2 f3)
  isplitl [W0 W1 W2 W6 W7 W8 Hp Hx H1 H2 H3]
  · isplitl [W0]; · iexact W0
    isplitl [W1]; · iexact W1
    isplitl [W2]; · iexact W2
    isplitl [W6]; · iexact W6
    isplitl [W7]; · iexact W7
    isplitl [W8]; · iexact W8
    isplitl [Hp]; · iapply (whole_has c cc0_scratch0 fp); iexact Hp
    isplitl [Hx]; · iapply (whole_has c cc0_scratch1 fx); iexact Hx
    isplitl [H1]; · iapply (whole_has c cc0_scratch2 f1); iexact H1
    isplitl [H2]; · iapply (whole_has c cc0_scratch3 f2); iexact H2
    iapply (whole_has c cc0_scratch4 f3); iexact H3
  iintro ⟨W0, W1, W2, W6, W7, W8, Hp, Hx, H1, H2, H3⟩
  isplitl [Hp Hx H1 H2 H3 Hr]
  · isplitl [Hp]; · iexact Hp
    isplitl [Hx]; · iexact Hx
    isplitl [H1]; · iexact H1
    isplitl [H2]; · iexact H2
    isplitl [H3]; · iexact H3
    iexact Hr
  isplitl [Ho]; · iexact Ho
  isplitl [W0]
  · iapply (Head.leaves_exact (dats m 0 c) 0 t (X := (inputs m c).x) (.inl rfl) rfl rfl); iexact W0
  isplitl [W1]
  · iapply (Head.leaves_loose (dats m 0 c) 1 t rfl rfl (fill1 m c t d1)); iexact W1
  isplitl [W2]
  · iapply (Head.leaves_exact (dats m 0 c) 2 t (X := (inputs m c).s) (.inl rfl) rfl rfl); iexact W2
  isplitl [W3]
  · iapply (Head.leaves_idle (dats m 0 c) 3 t d3 hi3 ((flush_eq (flush0_3 t)).trans hd)); iexact W3
  isplitl [W4]
  · iapply (Head.leaves_idle (dats m 0 c) 4 t d4 hi3 ((flush_eq (flush0_4 t)).trans hd)); iexact W4
  isplitl [W5]
  · iapply (Head.leaves_idle (dats m 0 c) 5 t d5 hi3 ((flush_eq (flush0_5 t)).trans hd)); iexact W5
  isplitl [W6]
  · iapply (Head.leaves_loose (dats m 0 c) 6 t (idle6 t) rfl (hN ▸ fill6 m c t ((dats m 0 c).before 6 t d6))); iexact W6
  isplitl [W7]
  · iapply (Head.leaves_exact (dats m 0 c) 7 t (X := (fptosi 8 (Head.codesF (inputs m c).x) : IVec Head.S96x896 8)) (.inl hi7) rfl rfl); iexact W7
  · iapply (Head.leaves_exact (dats m 0 c) 8 t (X := Head.turned (Head.scaleWide (inputs m c).x)) (.inl hi7) rfl rfl); iexact W8

theorem after5 (c : Dev nD) (t : Fin cfg0.N) : (dats m 0 c).after 5 t = (inputs m c).last.top := by
  unfold dats
  rfl

/-- The last step. -/
theorem body_last (c : Dev nD) (t : Fin cfg0.N) (n : Nat) (ht : t.val = n + 1) (ht' : t.val = 19) :
    iprop((dats m 0 c).Φ t.castSucc ∗ (dats m 0 c).owesAt () t.castSucc ∗ bigSep Finset.univ fun w : Fin cfg0.W => found m c t w)
      ⊢ (wp frame (wpE (defs₀ (F := F)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W => (dats m 0 c).leaves w t) : sProp 𝕄) := by
  rw [bigSep_W0, bigSep_W0, step_at]
  have hi3 : cfg0.idle 3 (cfg0.grid.coords t) = false := (idle3 t).trans (by simp; omega)
  have hd : decide (t.val = 19) = true := by simp; omega
  have h1 : ¬ k0_cond1 (grid0.coords t) = 1#1 := by rw [cond1_iff]; omega
  have h2 : ¬ k0_cond2 (grid0.coords t) = 1#1 := by rw [cond2_iff]; omega
  have h3 : k0_cond3 (grid0.coords t) = 1#1 := by rw [cond3_iff]; omega
  have hN : Head.tilesOf t.val = 47 := if_pos ht'
  have h20 : (inputs m c).runAt (t.val + 1) = (inputs m c).last := by rw [ht']; rfl
  have h20tok : ((inputs m c).runAt (t.val + 1)).tok = (dats m 0 c).after 3 t := by
    show _ = (inputs m c).last.tok
    rw [h20]
  have h20margin : ((inputs m c).runAt (t.val + 1)).margin = (dats m 0 c).after 4 t := by
    show _ = (inputs m c).last.margin
    rw [h20]
  have h20top : ((inputs m c).runAt (t.val + 1)).top = (dats m 0 c).after 5 t := by
    rw [h20, after5]
  have hΦ : (dats m 0 c).Φ t.castSucc = inv m c t.val := rfl
  have hΦ' : (dats m 0 c).Φ t.succ = inv m c (t.val + 1) := rfl
  have ho : (dats m 0 c).owesAt () t.succ = (dats m 0 c).owesAt () t.castSucc := rfl
  rw [hΦ, hΦ', ho, inv_pos m c ht, inv_pos m c (k := t.val + 1) rfl]
  unfold held
  iintro ⟨⟨Hp, Hx, H1, H2, H3, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  rw [before2 m c t d2]
  iapply (Head.last_spec (F := F) 𝒱₀ c Set.univ (inputs m c) _ (Memref.isWhole_whole _) (scales2 (grid0.coords t)) (scales3 (grid0.coords t)) t.val ht' h1 h2 h3
    ((dats m 0 c).before 1 t d1) (fun j hj => before1 m c t d1 j (hN ▸ hj)) (no3_eq t h3) (off3_eq t h3) ((dats m 0 c).before 6 t d6)
    ((dats m 0 c).before 3 t d3) ((dats m 0 c).before 4 t d4) ((dats m 0 c).before 5 t d5))
  isplitl [W1 W2 W3 W4 W5 W6 Hp Hx H1 H2 H3]
  · isplitl [W1]; · iexact W1
    isplitl [W2]; · iexact W2
    isplitl [W3]; · iexact W3
    isplitl [W4]; · iexact W4
    isplitl [W5]; · iexact W5
    isplitl [W6]; · iexact W6
    isplitl [Hp]; · iexact Hp
    isplitl [Hx]; · iexact Hx
    isplitl [H1]; · iexact H1
    isplitl [H2]; · iexact H2
    iexact H3
  iintro ⟨W1, W2, W3, W4, W5, W6, Hp, Hx, H1, H2, H3⟩
  isplitl [Hp Hx H1 H2 H3 Hr]
  · isplitl [Hp]; · iexact Hp
    isplitl [Hx]; · iexact Hx
    isplitl [H1]; · iexact H1
    isplitl [H2]; · iexact H2
    isplitl [H3]; · iexact H3
    iexact Hr
  isplitl [Ho]; · iexact Ho
  isplitl [W0]
  · iapply (Head.leaves_exact (dats m 0 c) 0 t (.inl rfl) rfl (before0 m c t d0)); iexact W0
  isplitl [W1]
  · iapply (Head.leaves_loose (dats m 0 c) 1 t rfl rfl (fill1 m c t d1)); iexact W1
  isplitl [W2]
  · iapply (Head.leaves_exact (dats m 0 c) 2 t (X := (inputs m c).s) (.inl rfl) rfl rfl); iexact W2
  isplitl [W3]
  · iapply (Head.leaves_exact (dats m 0 c) 3 t (.inl hi3) rfl h20tok); iexact W3
  isplitl [W4]
  · iapply (Head.leaves_exact (dats m 0 c) 4 t (.inl hi3) rfl h20margin); iexact W4
  isplitl [W5]
  · iapply (Head.leaves_exact (dats m 0 c) 5 t (.inl hi3) rfl h20top); iexact W5
  isplitl [W6]
  · iapply (Head.leaves_loose (dats m 0 c) 6 t (idle6 t) rfl (hN ▸ fill6 m c t ((dats m 0 c).before 6 t d6))); iexact W6
  isplitl [W7]
  · iapply (Head.leaves_exact (dats m 0 c) 7 t (.inr ((flush_eq (flush0_7 t)).trans hd)) rfl (before7 m c d7 n t ht)); iexact W7
  · iapply (Head.leaves_exact (dats m 0 c) 8 t (.inr ((flush_eq (flush0_8 t)).trans hd)) rfl (before8 m c d8 n t ht)); iexact W8

/-- Every step meets its obligation. -/
theorem body_obligation (c : Dev nD) : BodyObligationLoose (dats m 0 c) (defs₀ (F := F)) 𝒱₀ () Set.univ := fun t => by
  have hlt := point_lt t
  rcases Nat.eq_zero_or_pos t.val with h | h
  · exact body_first m c t h
  · rcases Nat.lt_or_ge t.val 19 with h' | h'
    · exact body_mid m c t (t.val - 1) (by omega) h'
    · exact body_last m c t (t.val - 1) (by omega) (by omega)

/-! ## The run -/

set_option backward.isDefEq.respectTransparency.types false in
/-- Every execution ends, with each array of the pipeline and every other array at stated contents and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main (body_obligation m)
    (fun c => (dats m 0 c).share_full fun _ => rfl) (fun _ _ => rfl) (V0 m) [hostOps1] sfx_sub sfx_fresh sfx_keeps (hmain m 𝒱₀) (fun _ _ => rfl)
    (fun c => .rfl) (fun c => held_any m c 20) _ (fun _ h => h)

/-- Every execution ends, with the argument arrays as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c))⟩, h.2⟩) (run_main m ρ)

end Cert.KernelIdeal.Proof

end
-- ==== Proof.Head.Exact.lean ====
/-
  The kernel's scores read over the extended reals: each logit is the sum, over the 448 bytes of its column, of the low
  nibble times its code and the high nibble times its code, times the row's scale, times the column's scale.
-/
module

public import proofs.«01_k».proof.Proof.Head.Grid
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.PureOps.Ideal.Laws

@[expose] public section

noncomputable section

namespace Head

open Idealize.ShloMosaic Idealize.ShloMosaic.ValueIdx
open scoped BigOperators

/-! ## Constants, rounding and clipping -/

theorem ofBits_127 : Ideal.ofBits .f32 0x42FE0000#32 = ((127 : ℝ) : EReal) := by
  simp [Ideal.ofBits, Ideal.ieee]; rw [← EReal.coe_mul]; norm_num

theorem ofBits_neg127 : Ideal.ofBits .f32 0xC2FE0000#32 = ((-127 : ℝ) : EReal) := by
  simp [Ideal.ofBits, Ideal.ieee]; rw [← EReal.coe_mul]; norm_num

theorem ofBits_bot : Ideal.ofBits .f32 0xFF800000#32 = ⊥ := by
  simp [Ideal.ofBits, Ideal.ieee]

theorem ofBits_eight : Ideal.ofBits .bf16 0x4100#16 = ((8 : ℝ) : EReal) := by
  simp [Ideal.ofBits, Ideal.ieee]; rw [← EReal.coe_mul]; norm_num

/-- A value rounded to an integer and clipped to ±127 is an integer within ±127, the infinities included. -/
theorem clip_int (y : EReal) : ∃ z : ℤ, -127 ≤ z ∧ z ≤ 127 ∧
    min ((127 : ℝ) : EReal) (max ((-127 : ℝ) : EReal) (Ideal.liftRound Ideal.roundHalfEven y)) = ((z : ℝ) : EReal) := by
  induction y with
  | bot => exact ⟨-127, by norm_num, by norm_num, by
      rw [Ideal.liftRound_bot, max_eq_left bot_le, min_eq_right (EReal.coe_le_coe_iff.2 (by norm_num))]; norm_num⟩
  | top => exact ⟨127, by norm_num, by norm_num, by
      rw [Ideal.liftRound_top, max_eq_right le_top, min_eq_left le_top]; norm_num⟩
  | coe r => exact ⟨min 127 (max (-127) (Ideal.roundHalfEven r)), by omega, by omega, by
      rw [Ideal.liftRound_coe, ← EReal.coe_strictMono.monotone.map_max, ← EReal.coe_strictMono.monotone.map_min]; push_cast; rfl⟩

/-- An integer that fits converts to its word. -/
theorem fptosi_int {w : Nat} (z : ℤ) (h1 : -((2 ^ (w - 1) : Nat) : ℤ) ≤ z) (h2 : z ≤ ((2 ^ (w - 1) : Nat) : ℤ) - 1) :
    Ideal.fptosi w ((z : ℝ) : EReal) = BitVec.ofInt w z := by
  unfold Ideal.fptosi
  rw [Ideal.toIntClamped_coe, Int.floor_intCast, Int.ceil_intCast, ite_self]
  congr 1
  omega

/-- An 8-bit code converted to a word and back is the code. -/
theorem code_back (z : ℤ) (h1 : -127 ≤ z) (h2 : z ≤ 127) :
    (((Ideal.fptosi 8 ((z : ℝ) : EReal)).toInt : ℝ) : EReal) = ((z : ℝ) : EReal) := by
  have e : (2 : Nat) ^ (8 - 1) = 128 := by decide
  have hb : (BitVec.ofInt 8 z).toInt = z := by
    rw [BitVec.toInt_ofInt]
    exact Int.bmod_eq_of_le (by omega) (by omega)
  rw [fptosi_int z (by rw [e]; omega) (by rw [e]; omega), hb]

/-- The kernel's codes, converted to bytes and back, are themselves. -/
theorem codes_back (x : FVec Ideal S96x896 .bf16) (i : S96x896.Idx) :
    (((Ideal.fptosi 8 (codesF x i)).toInt : ℝ) : EReal) = codesF x i := by
  unfold codesF
  rw [minimumf_apply, maximumf_apply, broadcast_apply, broadcast_apply]
  generalize hd : divf (wide x) (broadcastTo S96x896 (scale x) (by decide)) = q
  have hr : roundeven q i = Ideal.liftRound Ideal.roundHalfEven (q i) := rfl
  have h1 : (Scalar.ofBits .f32 0x42FE0000#32 : Ideal .f32) = ((127 : ℝ) : EReal) := ofBits_127
  have h2 : (Scalar.ofBits .f32 0xC2FE0000#32 : Ideal .f32) = ((-127 : ℝ) : EReal) := ofBits_neg127
  rw [hr, h1, h2]
  obtain ⟨z, hz1, hz2, h⟩ := clip_int (q i)
  rw [h, code_back z hz1 hz2]

/-! ## Nibbles -/

/-- The low nibble of a byte, less 8. -/
def loNib (v : BitVec 8) : EReal := (((IntOp.andi (v.setWidth 32) 15#32).toInt : ℝ) : EReal) - ((8 : ℝ) : EReal)
/-- The high nibble of a byte, less 8. -/
def hiNib (v : BitVec 8) : EReal := (((IntOp.shrsi .vector (v.setWidth 32) 4#32).toInt : ℝ) : EReal) - ((8 : ℝ) : EReal)

theorem lo_word : ∀ n : Fin 256, (IntOp.shrsi .vector (IntOp.shli .vector (BitVec.setWidth 32 (IntOp.xori (BitVec.ofNat 8 n.val) 136#8)) 28#32) 28#32).toInt
    = (IntOp.andi ((BitVec.ofNat 8 n.val).setWidth 32) 15#32).toInt - 8 := by decide +kernel

theorem hi_word : ∀ n : Fin 256, (IntOp.shrsi .vector (IntOp.shli .vector (BitVec.setWidth 32 (IntOp.xori (BitVec.ofNat 8 n.val) 136#8)) 24#32) 28#32).toInt
    = (IntOp.shrsi .vector ((BitVec.ofNat 8 n.val).setWidth 32) 4#32).toInt - 8 := by decide +kernel

/-- The low nibble with its top bit flipped, sign extended, is the low nibble less 8. -/
theorem lo_nib (v : BitVec 8) :
    (((IntOp.shrsi .vector (IntOp.shli .vector (BitVec.setWidth 32 (IntOp.xori v 136#8)) 28#32) 28#32).toInt : ℝ) : EReal) = loNib v := by
  have h := lo_word ⟨v.toNat, v.isLt⟩
  rw [BitVec.ofNat_toNat, BitVec.setWidth_eq] at h
  rw [h, loNib, ← EReal.coe_sub]; push_cast; rfl

/-- The high nibble with its top bit flipped, sign extended, is the high nibble less 8. -/
theorem hi_nib (v : BitVec 8) :
    (((IntOp.shrsi .vector (IntOp.shli .vector (BitVec.setWidth 32 (IntOp.xori v 136#8)) 24#32) 28#32).toInt : ℝ) : EReal) = hiNib v := by
  have h := hi_word ⟨v.toNat, v.isLt⟩
  rw [BitVec.ofNat_toNat, BitVec.setWidth_eq] at h
  rw [h, hiNib, ← EReal.coe_sub]; push_cast; rfl

theorem shapeCast_id {α : Type} {s : Shape} (x : s.Idx → α) (h : s.ShapeCasts s) : shapeCast s x h = x := by
  funext j; exact shapeCast_apply x h j j rfl

/-- Row `2k` of a block of nibbles. -/
theorem nibbles_lo {n : Nat} (h : Blk n) (v : IVec (S448xN n) 8) (k : Fin 448) (c : Fin n) :
    nibbles h v (ix2 ⟨2 * k.val, by omega⟩ c)
      = IntOp.shrsi .vector (IntOp.shli .vector (BitVec.setWidth 32 (IntOp.xori (v (ix2 k c)) 136#8)) 28#32) 28#32 := by
  unfold nibbles
  rw [shapeCast_id]
  refine (shapeCast_apply _ h.join (ix2 ⟨2 * k.val, by omega⟩ c) (ix3 k (0 : Fin 2) c) ?_).trans ?_
  · rw [Shape.rowMajor_val_three, Shape.rowMajor_val_two]
    show (k.val * 2 + 0) * n + c.val = 2 * k.val * n + c.val
    rw [Nat.add_zero, Nat.mul_comm k.val 2]
  refine (concatenate_pair_apply_left _ _ _ h.cat _ rfl (ix3 k (0 : Fin 1) c) ?_).trans ?_
  · intro b
    match b with
    | ⟨0, _⟩ => rfl
    | ⟨1, _⟩ => rfl
    | ⟨2, _⟩ => rfl
  refine (shapeCast_apply _ h.split (ix3 k (0 : Fin 1) c) (ix2 k c) ?_).trans rfl
  rw [Shape.rowMajor_val_three, Shape.rowMajor_val_two]
  show k.val * n + c.val = (k.val * 1 + 0) * n + c.val
  rw [Nat.mul_one, Nat.add_zero]

/-- Row `2k + 1` of a block of nibbles. -/
theorem nibbles_hi {n : Nat} (h : Blk n) (v : IVec (S448xN n) 8) (k : Fin 448) (c : Fin n) :
    nibbles h v (ix2 ⟨2 * k.val + 1, by omega⟩ c)
      = IntOp.shrsi .vector (IntOp.shli .vector (BitVec.setWidth 32 (IntOp.xori (v (ix2 k c)) 136#8)) 24#32) 28#32 := by
  unfold nibbles
  rw [shapeCast_id]
  refine (shapeCast_apply _ h.join (ix2 ⟨2 * k.val + 1, by omega⟩ c) (ix3 k (1 : Fin 2) c) ?_).trans ?_
  · rw [Shape.rowMajor_val_three, Shape.rowMajor_val_two]
    show (k.val * 2 + 1) * n + c.val = (2 * k.val + 1) * n + c.val
    rw [Nat.mul_comm k.val 2]
  refine (concatenate_pair_apply_right _ _ _ h.cat _ rfl rfl (ix3 k (0 : Fin 1) c) ?_ rfl).trans ?_
  · intro b hb
    match b with
    | ⟨0, _⟩ => rfl
    | ⟨1, _⟩ => exact absurd rfl hb
    | ⟨2, _⟩ => rfl
  refine (shapeCast_apply _ h.split (ix3 k (0 : Fin 1) c) (ix2 k c) ?_).trans rfl
  rw [Shape.rowMajor_val_three, Shape.rowMajor_val_two]
  show k.val * n + c.val = (k.val * 1 + 0) * n + c.val
  rw [Nat.mul_one, Nat.add_zero]

/-! ## The interleaved codes -/

/-- The code that the interleaving puts in column `d`. -/
def source (d : Nat) : Nat := 32 * (d / 32) + 16 * (d % 2) + d % 32 / 2

theorem want_word : ∀ d : Fin 128,
    IntOp.ori (IntOp.ori (IntOp.andi (BitVec.ofNat 32 d.val) 4294967264#32) (IntOp.shli .vector (IntOp.andi (BitVec.ofNat 32 d.val) 1#32) 4#32))
      (IntOp.andi (IntOp.shrsi .vector (BitVec.ofNat 32 d.val) 1#32) 15#32) = BitVec.ofNat 32 (source d.val) := by decide +kernel

theorem source_lt {d : Nat} (h : d < 128) : source d < 128 := by unfold source; omega

/-- The interleaving matrix: one where the row is the column's source, zero elsewhere. -/
theorem interleave_apply (k d : Fin 128) : (interleave : FVec Ideal S128x128 .bf16) (ix2 k d) = if k.val = source d.val then 1 else 0 := by
  have e : (interleave : FVec Ideal S128x128 .bf16) (ix2 k d)
      = Scalar.select (IntOp.cmpi .eq (BitVec.ofNat 32 (0 * 128 + k.val))
          (IntOp.ori (IntOp.ori (IntOp.andi (BitVec.ofNat 32 (0 * 128 + d.val)) 4294967264#32) (IntOp.shli .vector (IntOp.andi (BitVec.ofNat 32 (0 * 128 + d.val)) 1#32) 4#32))
            (IntOp.andi (IntOp.shrsi .vector (BitVec.ofNat 32 (0 * 128 + d.val)) 1#32) 15#32)))
          (Ideal.ofBits .f32 0x3F800000#32) (Ideal.ofBits .f32 0x00000000#32) := rfl
  rw [e, Nat.zero_mul, Nat.zero_add, Nat.zero_add, want_word, Ideal.ofBits_one_f32, Ideal.ofBits_zero_f32]
  have hs := source_lt d.isLt
  by_cases h : k.val = source d.val
  · rw [if_pos h, h]
    simp [IntOp.cmpi, Scalar.select]
  · rw [if_neg h]
    have hne : ¬ (BitVec.ofNat 32 k.val = BitVec.ofNat 32 (source d.val)) := by
      intro he
      have := congrArg BitVec.toNat he
      simp only [BitVec.toNat_ofNat] at this
      omega
    have hb : (BitVec.ofNat 32 k.val == BitVec.ofNat 32 (source d.val)) = false := beq_eq_false_iff_ne.2 hne
    show Scalar.select (BitVec.ofBool (BitVec.ofNat 32 k.val == BitVec.ofNat 32 (source d.val))) (1 : EReal) 0 = 0
    rw [hb]; rfl

theorem dimsPerm_eq : dimsPerm = DotDims.plain 96 128 128 := rfl
theorem dims_eq {n : Nat} (h : Blk n) : dims h = DotDims.plain 96 896 n := rfl

/-- The interleaved codes: each column the code at its source. -/
theorem packed_apply (x : FVec Ideal S96x896 .bf16) (r : Fin 96) (k : Fin 896) :
    packed x (ix2 r k) = codesF x (ix2 r ⟨32 * (k.val / 32) + 16 * (k.val % 2) + k.val % 32 / 2, by omega⟩) := by
  have e : packed x (ix2 r k) = FloatOps.matmul dimsPerm none
      (extractStridedSlice S96x128 ![0, 128 * (k.val / 128)] (codesF x : FVec Ideal S96x896 .bf16) (slices_chunk (m := 6 - k.val / 128) (by omega)))
      (interleave : FVec Ideal S128x128 .bf16)
      (constant (F := Ideal) S96x128 .f32 0x00000000#32) (ix2 r ⟨k.val % 128, by omega⟩) := rfl
  rw [e, dimsPerm_eq, Ideal.matmul_plain_apply]
  simp only [interleave_apply, mul_ite, mul_one, mul_zero]
  rw [constant_apply, Ideal.ofBits_zero_f32, zero_add]
  have hs : source (k.val % 128) < 128 := source_lt (by omega)
  rw [Finset.sum_eq_single ⟨source (k.val % 128), hs⟩ (fun b _ hb => if_neg fun h => hb (Fin.ext h)) (fun h => absurd (Finset.mem_univ _) h), if_pos rfl]
  refine (extractStridedSlice_apply _ _ _ _ (ix2 r ⟨32 * (k.val / 32) + 16 * (k.val % 2) + k.val % 32 / 2, by omega⟩) ?_)
  intro a
  match a with
  | ⟨0, _⟩ => show r.val = 0 + r.val; omega
  | ⟨1, _⟩ => show 32 * (k.val / 32) + 16 * (k.val % 2) + k.val % 32 / 2 = 128 * (k.val / 128) + source (k.val % 128); unfold source; omega

/-- The column of the code that meets the low nibble of byte `k`. -/
def loCol (k : Fin 448) : Fin 896 := ⟨32 * (k.val / 16) + k.val % 16, by omega⟩
/-- The column of the code that meets the high nibble of byte `k`. -/
def hiCol (k : Fin 448) : Fin 896 := ⟨32 * (k.val / 16) + 16 + k.val % 16, by omega⟩

/-- A sum over 896 rows by pairs. -/
theorem sum_pairs (f : Fin 896 → EReal) : ∑ k, f k = ∑ k : Fin 448, f ⟨2 * k.val, by omega⟩ + ∑ k : Fin 448, f ⟨2 * k.val + 1, by omega⟩ := by
  rw [← Equiv.sum_comp (finProdFinEquiv (m := 448) (n := 2)) f, Fintype.sum_prod_type, ← Finset.sum_add_distrib]
  refine Finset.sum_congr rfl fun k _ => ?_
  rw [Fin.sum_univ_two]
  congr 1
  · exact congrArg f (Fin.ext (show 0 + 2 * k.val = 2 * k.val by omega))
  · exact congrArg f (Fin.ext (show 1 + 2 * k.val = 2 * k.val + 1 by omega))

/-- One dot product: codes against the nibbles of a column of bytes. -/
def dotAt (x : FVec Ideal S96x896 .bf16) (r : Fin 96) (v : Fin 448 → BitVec 8) : EReal :=
  ∑ k : Fin 448, codesF x (ix2 r (loCol k)) * loNib (v k) + ∑ k : Fin 448, codesF x (ix2 r (hiCol k)) * hiNib (v k)

/-- The kernel's dot products. -/
theorem acc_apply {n : Nat} (h : Blk n) (x : FVec Ideal S96x896 .bf16) (v : IVec (S448xN n) 8) (r : Fin 96) (c : Fin n) :
    acc h (packed x) v (ix2 r c) = dotAt x r fun k => v (ix2 k c) := by
  unfold acc matmul
  rw [dims_eq, Ideal.matmul_plain_apply, constant_apply, Ideal.ofBits_zero_f32, zero_add, sum_pairs]
  unfold dotAt
  refine congrArg₂ (· + ·) ?_ ?_
  · refine Finset.sum_congr rfl fun k _ => ?_
    rw [packed_apply, sitofp_apply, nibbles_lo]
    refine congrArg₂ (· * ·) (congrArg (codesF x) (congrArg (ix2 r) (Fin.ext ?_))) (lo_nib _)
    show 32 * (2 * k.val / 32) + 16 * (2 * k.val % 2) + 2 * k.val % 32 / 2 = 32 * (k.val / 16) + k.val % 16
    omega
  · refine Finset.sum_congr rfl fun k _ => ?_
    rw [packed_apply, sitofp_apply, nibbles_hi]
    refine congrArg₂ (· * ·) (congrArg (codesF x) (congrArg (ix2 r) (Fin.ext ?_))) (hi_nib _)
    show 32 * ((2 * k.val + 1) / 32) + 16 * ((2 * k.val + 1) % 2) + (2 * k.val + 1) % 32 / 2 = 32 * (k.val / 16) + 16 + k.val % 16
    omega

/-! ## The logits -/

/-- One logit. -/
def logitAt (I : Inputs Ideal) (r : Fin 96) (c : Fin 151936) : EReal :=
  dotAt I.x r (fun k => I.w (ix2 k c)) * scale I.x (ix2 r 0) * I.s (ix1 c)

theorem scaleWide_apply (x : FVec Ideal S96x896 .bf16) (i : S96x128.Idx) : scaleWide x i = scale x (ix2 (i 0) 0) := by
  unfold scaleWide
  rw [shapeCast_id]
  refine broadcastTo_apply _ _ _ _ ?_
  intro a
  match a with
  | ⟨0, _⟩ => rfl
  | ⟨1, _⟩ => rfl

/-- A scaled dot product of a block's column is the logit of its column of the whole. -/
theorem scaled_apply (I : Inputs Ideal) {n l o t : Nat} (h : Blk n) (hl : l + 128 ≤ n) (o' : Nat) (i : S96x128.Idx) (c : Fin 151936)
    (hc : 7680 * t + (o + l + (i 1).val) = c.val) (hb : o + l + (i 1).val < 7680) (ho' : o' + (i 1).val = c.val) :
    scaled hl (acc h (packed I.x) (cols n o (I.block t))) (scaleWide I.x) (scalesAt o' I.s) i = logitAt I (i 0) c := by
  have e : scaled hl (acc h (packed I.x) (cols n o (I.block t))) (scaleWide I.x) (scalesAt o' I.s) i
      = acc h (packed I.x) (cols n o (I.block t)) (ix2 (n0 := 96) (n1 := n) (i 0) ⟨l + (i 1).val, by have : (i 1).val < 128 := (i 1).isLt; omega⟩)
          * scaleWide I.x i * scalesAt o' I.s (ix2 0 (i 1)) := rfl
  rw [e]
  unfold logitAt
  refine (congrArg₂ (· * ·) (congrArg₂ (· * ·) (acc_apply h I.x _ (i 0) _) (scaleWide_apply I.x i)) rfl).trans ?_
  have hv : (fun k => cols n o (I.block t) (ix2 k ⟨l + (i 1).val, by have : (i 1).val < 128 := (i 1).isLt; omega⟩)) = fun k => I.w (ix2 k c) := by
    funext k
    unfold cols Inputs.block
    refine congrArg I.w (congrArg (ix2 k) (Fin.ext ?_))
    show (7680 * t + (o + (l + (i 1).val)) % 7680) % 151936 = c.val
    have := c.isLt
    rw [Nat.mod_eq_of_lt (by omega : o + (l + (i 1).val) < 7680), Nat.mod_eq_of_lt (by omega)]; omega
  have hs : scalesAt o' I.s (ix2 0 (i 1)) = I.s (ix1 c) := by
    unfold scalesAt
    refine congrArg I.s (congrArg ix1 (Fin.ext ?_))
    show (o' + (i 1).val) % 151936 = c.val
    have := c.isLt
    rw [ho']; exact Nat.mod_eq_of_lt this
  exact congrArg₂ (· * ·) (congrArg₂ (· * ·) (congrArg (dotAt I.x (i 0)) hv) rfl) hs

/-- The scores of step `t`'s tile `u` are the logits of its columns. -/
theorem tile_apply (I : Inputs Ideal) {t u : Nat} (ht : t < 20) (hu : u < tilesOf t) (i : S96x128.Idx) (c : Fin 151936)
    (hc : 7680 * t + 128 * u + (i 1).val = c.val) : I.tile t u i = logitAt I (i 0) c := by
  have h1 : (i 1).val < 128 := (i 1).isLt
  have hu' : u < 60 := by unfold tilesOf at hu; split at hu <;> omega
  unfold Inputs.tile blockTile
  by_cases hp : u < 2 * (if t = 19 then 23 else 30)
  · rw [if_pos hp]
    unfold pairTile
    exact scaled_apply I (t := t) (o := 128 * (2 * (u / 2))) blk256 _ (7680 * t + 128 * u) i c (by omega) (by omega) (by omega)
  · rw [if_neg hp]
    unfold loneTile
    exact scaled_apply I (t := t) (o := 128 * u) blk128 _ (7680 * t + 128 * u) i c (by omega) (by omega) (by omega)

end Head

end
-- ==== Proof.Head.TopTwo.lean ====
/-
  The best, the second best and the least place of the best of a row of 151936 scores, kept lane by lane over 1187 tiles
  of 128 and then joined over the lanes, are those of the row taken at once.
-/
module

public import Idealize.ShloMosaic.PureOps.Ideal.Laws
public import Idealize.ShloMosaic.PureOps

@[expose] public section

noncomputable section

namespace Head

open Idealize.ShloMosaic

/-! ## One lane -/

/-- What a lane holds after the first `n` of its scores `Y`: the best `a`, at its first place `T`, and the best `b` of the others. -/
structure Best (Y : ℕ → EReal) (n : ℕ) (a b : EReal) (T : ℕ) : Prop where
  place : T < max n 1
  here : 0 < n → Y T = a
  none : n = 0 → a = ⊥
  best : ∀ t, t < n → Y t ≤ a
  first : ∀ t, t < T → Y t < a
  second : ∀ t, t < n → t ≠ T → Y t ≤ b
  there : b = ⊥ ∨ ∃ t, t < n ∧ t ≠ T ∧ Y t = b

theorem Best.start (Y : ℕ → EReal) : Best Y 0 ⊥ ⊥ 0 :=
  ⟨by decide, fun h => absurd h (by decide), fun _ => rfl, fun _ h => absurd h (by omega), fun _ h => absurd h (by omega),
    fun _ h => absurd h (by omega), .inl rfl⟩

/-- One more score. -/
theorem Best.step {Y : ℕ → EReal} {n : ℕ} {a b : EReal} {T : ℕ} (h : Best Y n a b T) :
    Best Y (n + 1) (max a (Y n)) (max b (min a (Y n))) (if a < Y n then n else T) := by
  have hT := h.place
  by_cases hlt : a < Y n
  · rw [if_pos hlt, max_eq_right hlt.le, min_eq_left hlt.le]
    refine ⟨by omega, fun _ => rfl, fun h0 => absurd h0 (by omega), ?_, ?_, ?_, ?_⟩
    · intro t ht
      rcases Nat.lt_succ_iff_lt_or_eq.1 ht with ht | rfl
      · exact (h.best t ht).trans hlt.le
      · exact le_rfl
    · intro t ht
      exact (h.best t ht).trans_lt hlt
    · intro t ht hne
      have ht' : t < n := by omega
      exact (h.best t ht').trans (le_max_right _ _)
    · rcases le_total a b with hab | hab
      · rw [max_eq_left hab]
        rcases h.there with hb | ⟨t, ht, _, hb⟩
        · exact .inl hb
        · exact .inr ⟨t, by omega, by omega, hb⟩
      · rw [max_eq_right hab]
        rcases Nat.eq_zero_or_pos n with h0 | h0
        · exact .inl (h.none h0)
        · exact .inr ⟨T, by omega, by omega, h.here h0⟩
  · rw [if_neg hlt]
    have hle : Y n ≤ a := not_lt.1 hlt
    rw [max_eq_left hle, min_eq_right hle]
    refine ⟨by omega, ?_, fun h0 => absurd h0 (by omega), ?_, h.first, ?_, ?_⟩
    · intro _
      rcases Nat.eq_zero_or_pos n with h0 | h0
      · have : T = n := by omega
        rw [this, h.none h0]
        rw [h.none h0] at hle
        exact le_antisymm hle bot_le
      · exact h.here h0
    · intro t ht
      rcases Nat.lt_succ_iff_lt_or_eq.1 ht with ht | rfl
      · exact h.best t ht
      · exact hle
    · intro t ht hne
      rcases Nat.lt_succ_iff_lt_or_eq.1 ht with ht | rfl
      · exact (h.second t ht hne).trans (le_max_left _ _)
      · exact le_max_right _ _
    · rcases le_total (Y n) b with hab | hab
      · rw [max_eq_left hab]
        rcases h.there with hb | ⟨t, ht, hne, hb⟩
        · exact .inl hb
        · exact .inr ⟨t, by omega, hne, hb⟩
      · rw [max_eq_right hab]
        rcases Nat.eq_zero_or_pos n with h0 | h0
        · rw [h.none h0] at hle
          exact .inl (le_antisymm hle bot_le)
        · exact .inr ⟨n, by omega, by omega, rfl⟩

/-! ## The least of some words -/

/-- The least of words below 2³¹, one of which is the lower bound `v`. -/
theorem fold_minsi {ι : Type} [DecidableEq ι] (f : ι → BitVec 32) (v : ℕ) (s : Finset ι) (k0 : ι) (h0 : f k0 = BitVec.ofNat 32 v) (hk : k0 ∈ s)
    (hf : ∀ k, ∃ w : ℕ, f k = BitVec.ofNat 32 w ∧ v ≤ w ∧ w < 2147483648) :
    s.fold IntOp.minsi 2147483647#32 f = BitVec.ofNat 32 v := by
  have hv : v < 2147483648 := by
    obtain ⟨w, _, h1, h2⟩ := hf k0
    omega
  have key : ∀ s : Finset ι, ∃ w : ℕ, s.fold IntOp.minsi 2147483647#32 f = BitVec.ofNat 32 w ∧ v ≤ w ∧ w < 2147483648 ∧ (k0 ∈ s → w = v) := by
    intro s
    induction s using Finset.induction with
    | empty => exact ⟨2147483647, rfl, by omega, by omega, fun h => absurd h (Finset.notMem_empty _)⟩
    | insert a s ha ih =>
      obtain ⟨w, hw, h1, h2, h3⟩ := ih
      obtain ⟨u, hu, h4, h5⟩ := hf a
      rw [Finset.fold_insert ha, hw, hu]
      have hlt : (BitVec.ofNat 32 u).slt (BitVec.ofNat 32 w) = decide (u < w) := by
        have eu : (BitVec.ofNat 32 u).toInt = u := by
          rw [BitVec.toInt_eq_toNat_of_lt (by rw [BitVec.toNat_ofNat]; omega), BitVec.toNat_ofNat]; omega
        have ew : (BitVec.ofNat 32 w).toInt = w := by
          rw [BitVec.toInt_eq_toNat_of_lt (by rw [BitVec.toNat_ofNat]; omega), BitVec.toNat_ofNat]; omega
        rw [BitVec.slt_eq_decide, eu, ew]
        exact decide_eq_decide.2 (by omega)
      unfold IntOp.minsi
      rw [hlt]
      have hav : a = k0 → u = v := by
        intro e
        rw [e, h0] at hu
        have := congrArg BitVec.toNat hu
        simp only [BitVec.toNat_ofNat] at this
        omega
      by_cases huw : u < w
      · refine ⟨u, by rw [if_pos (decide_eq_true huw)], h4, h5, fun hm => ?_⟩
        rcases Finset.mem_insert.1 hm with e | e
        · exact hav e.symm
        · have := h3 e; omega
      · refine ⟨w, by rw [if_neg (by rw [decide_eq_false huw]; decide)], h1, h2, fun hm => ?_⟩
        rcases Finset.mem_insert.1 hm with e | e
        · have := hav e.symm; omega
        · exact h3 e
  obtain ⟨w, hw, _, _, h3⟩ := key s
  rw [hw, h3 hk]

theorem select_true {α : Type} {p : Prop} [Decidable p] (h : p) (a b : α) : Scalar.select (BitVec.ofBool (decide p)) a b = a := by
  rw [decide_eq_true h]; rfl

theorem select_false {α : Type} {p : Prop} [Decidable p] (h : ¬ p) (a b : α) : Scalar.select (BitVec.ofBool (decide p)) a b = b := by
  rw [decide_eq_false h]; rfl

theorem select_oeq {α : Type} (x y : EReal) (a b : α) : Scalar.select (Ideal.cmp .oeq x y) a b = if x = y then a else b := by
  by_cases h : x = y
  · rw [if_pos h]; exact select_true h a b
  · rw [if_neg h]; exact select_false h a b

theorem select_ogt {α : Type} (x y : EReal) (a b : α) : Scalar.select (Ideal.cmp .ogt x y) a b = if y < x then a else b := by
  by_cases h : y < x
  · rw [if_pos h]; exact select_true h a b
  · rw [if_neg h]; exact select_false h a b

theorem select_eq_word {α : Type} {u v : ℕ} (hu : u < 4294967296) (hv : v < 4294967296) (a b : α) :
    Scalar.select (IntOp.cmpi .eq (BitVec.ofNat 32 u) (BitVec.ofNat 32 v)) a b = if u = v then a else b := by
  show Scalar.select (BitVec.ofBool (BitVec.ofNat 32 u == BitVec.ofNat 32 v)) a b = _
  by_cases h : u = v
  · rw [if_pos h, h, beq_self_eq_true]; rfl
  · rw [if_neg h, beq_eq_false_iff_ne.2 (fun he => h ?_)]; · rfl
    have := congrArg BitVec.toNat he
    simp only [BitVec.toNat_ofNat] at this
    omega

/-! ## The row -/

/-- Lane `l`'s scores, tile by tile; past the last tile there are none. -/
def laneOf (L : Fin 151936 → EReal) (l : Fin 128) (t : ℕ) : EReal := if h : 128 * t + l.val < 151936 then L ⟨128 * t + l.val, h⟩ else ⊥

theorem laneOf_eq (L : Fin 151936 → EReal) {l : Fin 128} {t : ℕ} (c : Fin 151936) (h : 128 * t + l.val = c.val) : laneOf L l t = L c := by
  unfold laneOf
  rw [dif_pos (by have := c.isLt; omega)]
  exact congrArg L (Fin.ext h)

/-- The least column with the best score, in a row of any length. -/
theorem exists_least {n : ℕ} (hn : 0 < n) (L : Fin n → EReal) :
    ∃ c : Fin n, L c = Finset.univ.sup L ∧ ∀ d : Fin n, L d = Finset.univ.sup L → c ≤ d := by
  obtain ⟨c, _, hc⟩ := Finset.exists_mem_eq_sup (Finset.univ : Finset (Fin n)) ⟨⟨0, hn⟩, Finset.mem_univ _⟩ L
  have hne : (Finset.univ.filter fun d : Fin n => L d = Finset.univ.sup L).Nonempty := ⟨c, Finset.mem_filter.2 ⟨Finset.mem_univ _, hc.symm⟩⟩
  exact ⟨_, (Finset.mem_filter.1 (Finset.min'_mem _ hne)).2, fun d hd => Finset.min'_le (Finset.univ.filter fun d : Fin n => L d = Finset.univ.sup L) d (Finset.mem_filter.2 ⟨Finset.mem_univ _, hd⟩)⟩

section Row

variable {L : Fin 151936 → EReal} {A B : Fin 128 → EReal} {T : Fin 128 → ℕ} (H : ∀ l, Best (laneOf L l) 1187 (A l) (B l) (T l))

/-- The column of lane `l`'s best. -/
def bestOf (T : Fin 128 → ℕ) (l : Fin 128) : ℕ := 128 * T l + l.val

include H

theorem bestOf_lt (l : Fin 128) : bestOf T l < 151936 := by
  have := (H l).place; have := l.isLt; unfold bestOf; omega

/-- Each lane's best is its column's score. -/
theorem at_best (l : Fin 128) : L ⟨bestOf T l, bestOf_lt H l⟩ = A l :=
  (laneOf_eq L (l := l) (t := T l) ⟨bestOf T l, bestOf_lt H l⟩ rfl).symm.trans ((H l).here (by decide))

/-- Each column's score is at most its lane's best. -/
theorem le_best (c : Fin 151936) : L c ≤ A ⟨c.val % 128, by omega⟩ := by
  have := (H ⟨c.val % 128, by omega⟩).best (c.val / 128) (by omega)
  rwa [laneOf_eq L c (by show 128 * (c.val / 128) + c.val % 128 = c.val; omega)] at this

/-- The best over the lanes is the best over the row. -/
theorem top_eq : Finset.univ.sup A = Finset.univ.sup L := by
  refine le_antisymm (Finset.sup_le fun l _ => ?_) (Finset.sup_le fun c _ => ?_)
  · rw [← at_best H l]; exact Finset.le_sup (f := L) (Finset.mem_univ _)
  · exact (le_best H c).trans (Finset.le_sup (f := A) (Finset.mem_univ _))

/-- The least column with the best score is its lane's place of its best. -/
theorem least_place {c : Fin 151936} (hc : L c = Finset.univ.sup L) (hm : ∀ d : Fin 151936, L d = Finset.univ.sup L → c ≤ d) :
    A ⟨c.val % 128, by omega⟩ = Finset.univ.sup L ∧ bestOf T ⟨c.val % 128, by omega⟩ = c.val := by
  have hA : A ⟨c.val % 128, by omega⟩ = Finset.univ.sup L := by
    refine le_antisymm ?_ (hc ▸ le_best H c)
    rw [← at_best H]; exact Finset.le_sup (f := L) (Finset.mem_univ _)
  refine ⟨hA, ?_⟩
  have h1 : c.val ≤ bestOf T ⟨c.val % 128, by omega⟩ := hm ⟨bestOf T ⟨c.val % 128, by omega⟩, bestOf_lt H _⟩ ((at_best H _).trans hA)
  have h2 : ¬ c.val / 128 < T ⟨c.val % 128, by omega⟩ := by
    intro hlt
    have := (H ⟨c.val % 128, by omega⟩).first _ hlt
    rw [laneOf_eq L c (by show 128 * (c.val / 128) + c.val % 128 = c.val; omega), hc, hA] at this
    exact lt_irrefl _ this
  have hb : bestOf T ⟨c.val % 128, by omega⟩ = 128 * T ⟨c.val % 128, by omega⟩ + c.val % 128 := rfl
  omega

/-- The token, lane by lane, is the least column with the best score; so is the row's. -/
theorem token_eq {c : Fin 151936} (hc : L c = Finset.univ.sup L) (hm : ∀ d : Fin 151936, L d = Finset.univ.sup L → c ≤ d) :
    (Finset.univ.fold IntOp.minsi 2147483647#32 fun l : Fin 128 =>
        if A l = Finset.univ.sup L then BitVec.ofNat 32 (bestOf T l) else 1073741824#32) = BitVec.ofNat 32 c.val
    ∧ (Finset.univ.fold IntOp.minsi 2147483647#32 fun d : Fin 151936 =>
        if L d = Finset.univ.sup L then BitVec.ofNat 32 d.val else 151936#32) = BitVec.ofNat 32 c.val := by
  obtain ⟨hA, hT⟩ := least_place H hc hm
  constructor
  · refine fold_minsi _ c.val _ ⟨c.val % 128, by omega⟩ ?_ (Finset.mem_univ _) fun l => ?_
    · show (if _ then _ else _) = _
      rw [if_pos hA, hT]
    · by_cases h : A l = Finset.univ.sup L
      · refine ⟨bestOf T l, if_pos h, hm ⟨bestOf T l, bestOf_lt H l⟩ ((at_best H l).trans h), ?_⟩
        have := bestOf_lt H l; omega
      · exact ⟨1073741824, if_neg h, by have := c.isLt; omega, by decide⟩
  · refine fold_minsi _ c.val _ c ?_ (Finset.mem_univ _) fun d => ?_
    · exact if_pos hc
    · by_cases h : L d = Finset.univ.sup L
      · exact ⟨d.val, if_pos h, hm d h, by have := d.isLt; omega⟩
      · exact ⟨151936, if_neg h, by have := c.isLt; omega, by decide⟩

/-- The second score, lane by lane, is the best of the row with the token's column left out. -/
theorem second_eq {c : Fin 151936} (hc : L c = Finset.univ.sup L) (hm : ∀ d : Fin 151936, L d = Finset.univ.sup L → c ≤ d) :
    (Finset.univ.sup fun l : Fin 128 => if bestOf T l = c.val then B l else A l)
      = Finset.univ.sup fun d : Fin 151936 => if d.val = c.val then ⊥ else L d := by
  obtain ⟨hA, hT⟩ := least_place H hc hm
  refine le_antisymm (Finset.sup_le fun l _ => ?_) (Finset.sup_le fun d _ => ?_)
  · by_cases h : bestOf T l = c.val
    · rw [if_pos h]
      rcases (H l).there with hb | ⟨t, ht, hne, hb⟩
      · rw [hb]; exact bot_le
      · have hl := l.isLt
        rw [← hb, laneOf_eq L (l := l) (t := t) ⟨128 * t + l.val, by omega⟩ rfl]
        refine le_trans (le_of_eq ?_) (Finset.le_sup (f := fun d : Fin 151936 => if d.val = c.val then ⊥ else L d) (Finset.mem_univ ⟨128 * t + l.val, by omega⟩))
        unfold bestOf at h
        exact (if_neg (show ¬ (128 * t + l.val = c.val) by omega)).symm
    · rw [if_neg h, ← at_best H l]
      refine le_trans (le_of_eq ?_) (Finset.le_sup (f := fun d : Fin 151936 => if d.val = c.val then ⊥ else L d) (Finset.mem_univ ⟨bestOf T l, bestOf_lt H l⟩))
      exact (if_neg h).symm
  · by_cases h : d.val = c.val
    · rw [if_pos h]; exact bot_le
    · rw [if_neg h]
      refine le_trans ?_ (Finset.le_sup (f := fun l : Fin 128 => if bestOf T l = c.val then B l else A l) (Finset.mem_univ ⟨d.val % 128, by omega⟩))
      by_cases hl : bestOf T ⟨d.val % 128, by omega⟩ = c.val
      · show L d ≤ if _ then _ else _
        rw [if_pos hl]
        have := (H ⟨d.val % 128, by omega⟩).second (d.val / 128) (by omega) (by unfold bestOf at hl; simp only at hl; omega)
        rwa [laneOf_eq L d (by show 128 * (d.val / 128) + d.val % 128 = d.val; omega)] at this
      · show L d ≤ if _ then _ else _
        rw [if_neg hl]
        exact le_best H d

end Row

end Head

end
-- ==== Proof.Head.Results.lean ====
/-
  The kernel's six results over the extended reals, each read at an index, as functions of the row of logits: the running
  arrays after the whole grid hold each lane's best two, and the last step joins the lanes.
-/
module

public import proofs.«01_k».proof.Proof.Head.Exact
public import proofs.«01_k».proof.Proof.Head.TopTwo

@[expose] public section

noncomputable section

namespace Head

open Idealize.ShloMosaic Idealize.ShloMosaic.ValueIdx
open scoped BigOperators

/-! ## Rows -/

/-- A row's maximum. -/
theorem rowMax_apply {n : Nat} (src : FVec Ideal ⟨2, ![96, n]⟩ .f32) (h : (⟨2, ![96, n]⟩ : Shape).Reduces [1] S96) (hφ : FKind.Formats .f32)
    (hacc : (0xFF800000#32 : BitVec 32) = FKind.maximumf.neutral .f32 hφ) (r : Fin 96) :
    multiReduction .maximumf [1] S96 src 0xFF800000#32 h hφ hacc (ix1 r) = Finset.univ.sup fun k : Fin n => src (ix2 r k) := by
  rw [Ideal.multiReduction_maximumf_single, Ideal.ofBits_def, ofBits_bot]
  have e : (src ∘ h.lift (ix1 r)) = fun k : Fin n => src (ix2 r k) := by
    funext k
    refine congrArg src (funext fun a => ?_)
    match a with
    | ⟨0, _⟩ => rfl
    | ⟨1, _⟩ => rfl
  rw [e]
  rfl

/-- A row's maximum, given the row. -/
theorem rowMax_of {n : Nat} (src : FVec Ideal ⟨2, ![96, n]⟩ .f32) (h : (⟨2, ![96, n]⟩ : Shape).Reduces [1] S96) (hφ : FKind.Formats .f32)
    (hacc : (0xFF800000#32 : BitVec 32) = FKind.maximumf.neutral .f32 hφ) (r : Fin 96) (f : Fin n → EReal) (hf : ∀ d, src (ix2 r d) = f d) :
    multiReduction .maximumf [1] S96 src 0xFF800000#32 h hφ hacc (ix1 r) = Finset.univ.sup f :=
  (rowMax_apply src h hφ hacc r).trans (congrArg Finset.univ.sup (funext hf))

/-- A row's least word. -/
theorem rowMin_apply {n : Nat} (src : IVec ⟨2, ![96, n]⟩ 32) (h : (⟨2, ![96, n]⟩ : Shape).Reduces [1] S96)
    (hacc : (2147483647#32 : BitVec 32) = IKind.minsi.neutral) (r : Fin 96) :
    multiReductionI .minsi [1] S96 src 2147483647#32 h hacc (ix1 r) = Finset.univ.fold IntOp.minsi 2147483647#32 fun k : Fin n => src (ix2 r k) := by
  rw [multiReductionI_eq_fold, h.fold_filter_drop_single]
  have e : (src ∘ h.lift (ix1 r)) = fun k : Fin n => src (ix2 r k) := by
    funext k
    refine congrArg src (funext fun a => ?_)
    match a with
    | ⟨0, _⟩ => rfl
    | ⟨1, _⟩ => rfl
  rw [e]
  rfl

/-- A row's least word, given where it lies. -/
theorem rowMin_least {n : Nat} (src : IVec ⟨2, ![96, n]⟩ 32) (h : (⟨2, ![96, n]⟩ : Shape).Reduces [1] S96)
    (hacc : (2147483647#32 : BitVec 32) = IKind.minsi.neutral) (r : Fin 96) (v : Nat) (c : Fin n) (hc : src (ix2 r c) = BitVec.ofNat 32 v)
    (hv : ∀ d, ∃ u : Nat, src (ix2 r d) = BitVec.ofNat 32 u ∧ v ≤ u ∧ u < 2147483648) :
    multiReductionI .minsi [1] S96 src 2147483647#32 h hacc (ix1 r) = BitVec.ofNat 32 v := by
  rw [rowMin_apply]
  exact fold_minsi _ v _ c hc (Finset.mem_univ _) hv

/-! ## The running arrays -/

/-- A row of logits. -/
def rowOf (I : Inputs Ideal) (r : Fin 96) : Fin 151936 → EReal := fun c => logitAt I r c

/-- The number of tile `u` of step `t`, as a word. -/
theorem tileNo_eq (t u : Nat) : tileNo t u = BitVec.ofNat 32 (60 * t + u) := by
  show BitVec.ofNat 32 t * 60#32 + BitVec.ofNat 32 u = _
  rw [← BitVec.ofNat_mul, ← BitVec.ofNat_add, Nat.mul_comm]

/-- Each lane after `n` tiles of step `t`, from what it held before the step. -/
theorem after_best (I : Inputs Ideal) {t : Nat} (ht : t < 20) (i : S96x128.Idx) (s : Run Ideal)
    (hs : ∃ T, s.ix i = BitVec.ofNat 32 T ∧ Best (laneOf (rowOf I (i 0)) (i 1)) (60 * t) (s.m1 i) (s.m2 i) T) :
    ∀ n, n ≤ tilesOf t → ∃ T, (Run.after (tileNo t) (I.tile t) n 0 s).ix i = BitVec.ofNat 32 T
      ∧ Best (laneOf (rowOf I (i 0)) (i 1)) (60 * t + n) ((Run.after (tileNo t) (I.tile t) n 0 s).m1 i) ((Run.after (tileNo t) (I.tile t) n 0 s).m2 i) T := by
  intro n
  induction n with
  | zero => exact fun _ => hs
  | succ n ih =>
    intro hn
    obtain ⟨T, hT, hB⟩ := ih (by omega)
    rw [Run.after_succ, Nat.zero_add]
    generalize Run.after (tileNo t) (I.tile t) n 0 s = q at hT hB
    have h1 : (i 1).val < 128 := (i 1).isLt
    have hc : 128 * (60 * t + n) + (i 1).val < 151936 := by
      unfold tilesOf at hn; split at hn <;> omega
    have hy : I.tile t n i = laneOf (rowOf I (i 0)) (i 1) (60 * t + n) := by
      rw [tile_apply I ht (by omega) i ⟨128 * (60 * t + n) + (i 1).val, hc⟩ (by show 7680 * t + 128 * n + (i 1).val = 128 * (60 * t + n) + (i 1).val; omega)]
      exact (laneOf_eq (rowOf I (i 0)) (l := i 1) (t := 60 * t + n) ⟨128 * (60 * t + n) + (i 1).val, hc⟩ rfl).symm
    have e1 : (q.step (tileNo t n) (I.tile t n)).m1 i = max (q.m1 i) (I.tile t n i) := rfl
    have e2 : (q.step (tileNo t n) (I.tile t n)).m2 i = max (q.m2 i) (min (q.m1 i) (I.tile t n i)) := rfl
    have e3 : (q.step (tileNo t n) (I.tile t n)).ix i = Scalar.select (Ideal.cmp .ogt (I.tile t n i) (q.m1 i)) (tileNo t n) (q.ix i) := rfl
    rw [e1, e2, e3, hy, select_ogt, tileNo_eq, hT]
    refine ⟨_, ?_, hB.step⟩
    split <;> rfl

/-- Each lane before step `t`. -/
theorem runAt_best (I : Inputs Ideal) (i : S96x128.Idx) : ∀ t, t ≤ 20 → ∃ T, (I.runAt t).ix i = BitVec.ofNat 32 T
      ∧ Best (laneOf (rowOf I (i 0)) (i 1)) (min (60 * t) 1187) ((I.runAt t).m1 i) ((I.runAt t).m2 i) T
  | 0, _ => ⟨0, rfl, by
      have h1 : ((I.runAt 0).m1 i : EReal) = ⊥ := ofBits_bot
      have h2 : ((I.runAt 0).m2 i : EReal) = ⊥ := ofBits_bot
      rw [h1, h2]; exact Best.start _⟩
  | t + 1, h => by
    obtain ⟨T, hT, hB⟩ := runAt_best I i t (by omega)
    rw [show min (60 * t) 1187 = 60 * t by omega] at hB
    have := after_best I (show t < 20 by omega) i (I.runAt t) ⟨T, hT, hB⟩ (tilesOf t) le_rfl
    rw [show 60 * t + tilesOf t = min (60 * (t + 1)) 1187 by unfold tilesOf; split <;> omega] at this
    exact this

/-! ## The last step -/

theorem turned_apply (v : FVec Ideal S96x128 .f32) (r : Fin 96) : turned v (ix2 0 r) = v (ix2 r 0) := by
  unfold turned
  refine (extractStridedSlice_apply _ _ _ _ (ix2 (n0 := 128) (n1 := 96) 0 r) ?_).trans ?_
  · intro a
    match a with
    | ⟨0, _⟩ => rfl
    | ⟨1, _⟩ => show r.val = 0 + r.val; omega
  · refine transpose_apply _ _ _ _ (ix2 r 0) ?_
    intro b
    match b with
    | ⟨0, _⟩ => rfl
    | ⟨1, _⟩ => rfl

theorem asRow_apply (v : FVec Ideal S96x1 .f32) (r : Fin 96) : asRow v (ix2 0 r) = v (ix2 r 0) := by
  unfold asRow
  rw [turned_apply, shapeCast_id]
  refine broadcastTo_apply _ _ _ _ ?_
  intro a
  match a with
  | ⟨0, _⟩ => rfl
  | ⟨1, _⟩ => rfl

/-- A column repeated along a row. -/
theorem alongRow {α : Type} {n : Nat} (v : S96x1.Idx → α) (h : S96x1.Broadcasts ⟨2, ![96, n]⟩) (r : Fin 96) (c : Fin n) :
    broadcastTo ⟨2, ![96, n]⟩ v h (ix2 r c) = v (ix2 r 0) := by
  refine broadcastTo_apply _ _ _ _ ?_
  intro a
  match a with
  | ⟨0, _⟩ => rfl
  | ⟨1, _⟩ => rfl

theorem topCol_apply (m1 : FVec Ideal S96x128 .f32) (r : Fin 96) : topCol m1 (ix2 r 0) = Finset.univ.sup fun l : Fin 128 => m1 (ix2 r l) := by
  unfold topCol
  exact (shapeCast_a_a1_apply _ _ r 0).trans (rowMax_apply (n := 128) m1 _ _ rfl r)

theorem tokCol_apply (m1 : FVec Ideal S96x128 .f32) (ix : IVec S96x128 32) (r : Fin 96) :
    tokCol (F := Ideal) m1 ix (ix2 r 0) = Finset.univ.fold IntOp.minsi 2147483647#32 fun l : Fin 128 =>
      if m1 (ix2 r l) = (Finset.univ.sup fun l : Fin 128 => m1 (ix2 r l)) then bestCol ix (ix2 r l) else 1073741824#32 := by
  unfold tokCol
  refine (shapeCast_a_a1_apply _ _ r 0).trans ((rowMin_apply (n := 128) _ _ rfl r).trans ?_)
  congr 1
  funext l
  rw [select_apply, cmpf_apply, alongRow, topCol_apply]
  exact select_oeq _ _ _ _

theorem secondCol_apply (m1 m2 : FVec Ideal S96x128 .f32) (ix : IVec S96x128 32) (r : Fin 96) :
    secondCol m1 m2 ix (ix2 r 0) = Finset.univ.sup fun l : Fin 128 =>
      Scalar.select (IntOp.cmpi .eq (bestCol ix (ix2 r l)) (tokCol (F := Ideal) m1 ix (ix2 r 0))) (m2 (ix2 r l)) (m1 (ix2 r l)) := by
  unfold secondCol
  refine (shapeCast_a_a1_apply _ _ r 0).trans ((rowMax_apply (n := 128) _ _ _ rfl r).trans ?_)
  congr 1

/-- What the last step leaves in row `r`, given the row of logits and the least column with the row's best. -/
theorem last_row (I : Inputs Ideal) (r : Fin 96) {c : Fin 151936} (hc : logitAt I r c = Finset.univ.sup (rowOf I r))
    (hm : ∀ d : Fin 151936, logitAt I r d = Finset.univ.sup (rowOf I r) → c ≤ d) :
    I.last.top (ix2 0 r) = Finset.univ.sup (rowOf I r) ∧ I.last.tok (ix2 0 r) = BitVec.ofNat 32 c.val
    ∧ I.last.margin (ix2 0 r) = (Finset.univ.sup (rowOf I r) : EReal) - Finset.univ.sup fun d : Fin 151936 => if d.val = c.val then ⊥ else logitAt I r d := by
  have hb : ∀ l : Fin 128, ∃ T, I.last.ix (ix2 r l) = BitVec.ofNat 32 T
      ∧ Best (laneOf (rowOf I r) l) 1187 (I.last.m1 (ix2 r l)) (I.last.m2 (ix2 r l)) T := fun l => runAt_best I (ix2 r l) 20 le_rfl
  choose T hT H using hb
  have hbest : ∀ l, bestCol I.last.ix (ix2 r l) = BitVec.ofNat 32 (bestOf T l) := by
    intro l
    have e : bestCol I.last.ix (ix2 r l) = I.last.ix (ix2 r l) * 128#32 + BitVec.ofNat 32 (0 * 128 + l.val) := rfl
    rw [e, hT, Nat.zero_mul, Nat.zero_add, ← BitVec.ofNat_mul, ← BitVec.ofNat_add, Nat.mul_comm]; rfl
  have htop : topCol I.last.m1 (ix2 r 0) = Finset.univ.sup (rowOf I r) := (topCol_apply _ r).trans (top_eq H)
  have htok : tokCol (F := Ideal) I.last.m1 I.last.ix (ix2 r 0) = BitVec.ofNat 32 c.val := by
    rw [tokCol_apply, top_eq H]
    simp only [hbest]
    exact (token_eq H hc hm).1
  have hsec : secondCol I.last.m1 I.last.m2 I.last.ix (ix2 r 0) = Finset.univ.sup fun d : Fin 151936 => if d.val = c.val then ⊥ else logitAt I r d := by
    rw [secondCol_apply, htok]
    have e : (fun l : Fin 128 => Scalar.select (IntOp.cmpi .eq (bestCol I.last.ix (ix2 r l)) (BitVec.ofNat 32 c.val)) (I.last.m2 (ix2 r l)) (I.last.m1 (ix2 r l)))
        = fun l : Fin 128 => if bestOf T l = c.val then I.last.m2 (ix2 r l) else I.last.m1 (ix2 r l) := by
      funext l
      have := bestOf_lt H l
      have := c.isLt
      rw [hbest, select_eq_word (by omega) (by omega)]
    rw [e]
    exact second_eq H hc hm
  refine ⟨(asRow_apply _ r).trans htop, ?_, ?_⟩
  · have e : I.last.tok (ix2 0 r) = Ideal.fptosi 32 (asRow (F := Ideal) (sitofp .f32 (tokCol (F := Ideal) I.last.m1 I.last.ix)) (ix2 0 r)) := rfl
    rw [e, asRow_apply, sitofp_apply, htok]
    have hlt := c.isLt
    have ei : (BitVec.ofNat 32 c.val).toInt = (c.val : ℤ) := by
      rw [BitVec.toInt_eq_toNat_of_lt (by rw [BitVec.toNat_ofNat]; omega), BitVec.toNat_ofNat]; omega
    show Ideal.fptosi 32 ((((BitVec.ofNat 32 c.val).toInt : ℝ)) : EReal) = _
    have e31 : (2 : Nat) ^ (32 - 1) = 2147483648 := by decide
    rw [ei, fptosi_int _ (by rw [e31]; omega) (by rw [e31]; omega), BitVec.ofInt_natCast]
  · have e : I.last.margin (ix2 0 r) = asRow (subf (topCol I.last.m1) (secondCol I.last.m1 I.last.m2 I.last.ix)) (ix2 0 r) := rfl
    rw [e, asRow_apply, subf_apply, htop, hsec]

/-! ## The six results -/

/-- The tokens, a column. -/
def Inputs.tokens (I : Inputs Ideal) : (⟨2, ![96, 1]⟩ : Shape).Idx → BitVec 32 := fun j => I.last.tok (ix2 0 (j 0))
/-- The leads of the best over the second best, a column. -/
def Inputs.leads (I : Inputs Ideal) : (⟨2, ![96, 1]⟩ : Shape).Idx → EReal := fun j => I.last.margin (ix2 0 (j 0))
/-- The best logits, a column. -/
def Inputs.bests (I : Inputs Ideal) : (⟨2, ![96, 1]⟩ : Shape).Idx → EReal := fun j => I.last.top (ix2 0 (j 0))
/-- All logits. -/
def Inputs.allLogits (I : Inputs Ideal) : (⟨3, ![96, 1, 151936]⟩ : Shape).Idx → EReal := fun j => logitAt I (j 0) (j 2)
/-- The codes. -/
def Inputs.codes (I : Inputs Ideal) : (⟨3, ![96, 1, 896]⟩ : Shape).Idx → BitVec 8 := fun j => (fptosi 8 (codesF I.x) : IVec S96x896 8) (ix2 (j 0) (j 2))
/-- The rows' scales, a column. -/
def Inputs.scales (I : Inputs Ideal) : (⟨2, ![96, 1]⟩ : Shape).Idx → EReal := fun j => scale I.x (ix2 (j 0) 0)

end Head

end
-- ==== Proof.Head.ValueKernelIdeal.lean ====
/-
  `KernelIdeal`'s results: what the pipeline's arrays and the host lines after it hold when the run ends, as the six
  results of `Results`.
-/
module

public import proofs.«01_k».proof.Proof.Head.RunKernelIdeal
public import proofs.«01_k».proof.Proof.Head.Results
public import Idealize.ShloMosaic.Lib.Pipeline.ValueKit
public import Idealize.ShloMosaic.Lib.StableHlo.RunRead

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat Cfg Window)

variable (m : (ℓ : Loc nD τ sig) → Buf (Elt Ideal) ℓ) (ρ : Dev nD → PrngReg)

attribute [local irreducible] Head.Run.tok Head.Run.margin Head.Run.top Head.turned Head.scaleWide Head.codesF

/-! ## The pipeline's arrays -/

/-- The last grid point. -/
abbrev t19 : Fin cfg0.N := ⟨19, by decide⟩

theorem arr3 (c : Dev nD) : (dats m 0 c).arrAt 3 cfg0.N = (inputs m c).last.tok := by
  refine (dats m 0 c).arrAt_eq_of_after_last 3 t19 (by decide +kernel) _ fun j => ?_
  have e : (dats m 0 c).after 3 t19 = (inputs m c).last.tok := by unfold dats; rfl
  rw [e]
  generalize (inputs m c).last.tok = G
  rfl
theorem arr4 (c : Dev nD) : (dats m 0 c).arrAt 4 cfg0.N = (inputs m c).last.margin := by
  refine (dats m 0 c).arrAt_eq_of_after_last 4 t19 (by decide +kernel) _ fun j => ?_
  have e : (dats m 0 c).after 4 t19 = (inputs m c).last.margin := by unfold dats; rfl
  rw [e]
  generalize (inputs m c).last.margin = G
  rfl
theorem arr5 (c : Dev nD) : (dats m 0 c).arrAt 5 cfg0.N = (inputs m c).last.top := by
  refine (dats m 0 c).arrAt_eq_of_after_last 5 t19 (by decide +kernel) _ fun j => ?_
  have e : (dats m 0 c).after 5 t19 = (inputs m c).last.top := by unfold dats; rfl
  rw [e]
  generalize (inputs m c).last.top = G
  rfl
theorem arr7 (c : Dev nD) : (dats m 0 c).arrAt 7 cfg0.N = (fptosi 8 (Head.codesF (inputs m c).x) : IVec Head.S96x896 8) := by
  refine (dats m 0 c).arrAt_eq_of_after_last 7 t19 (by decide +kernel) _ fun j => ?_
  have e : (dats m 0 c).after 7 t19 = (fptosi 8 (Head.codesF (inputs m c).x) : IVec Head.S96x896 8) := by unfold dats; rfl
  rw [e]
  generalize (fptosi 8 (Head.codesF (inputs m c).x) : IVec Head.S96x896 8) = G
  rfl
theorem arr8 (c : Dev nD) : (dats m 0 c).arrAt 8 cfg0.N = Head.turned (Head.scaleWide (inputs m c).x) := by
  refine (dats m 0 c).arrAt_eq_of_after_last 8 t19 (by decide +kernel) _ fun j => ?_
  have e : (dats m 0 c).after 8 t19 = Head.turned (Head.scaleWide (inputs m c).x) := by unfold dats; rfl
  rw [e]
  generalize Head.turned (Head.scaleWide (inputs m c).x) = G
  rfl

theorem index6 : ∀ (t : Fin cfg0.N) (a : Fin 3), win0_6.index t a = ![0, 0, t.val] a := by decide

/-- The block of logits step `t` leaves, at an index that is written back. -/
theorem logits_at (I : Head.Inputs Ideal) (t : Nat) (ht : t < 20) (z : Head.S96x1x7680.Idx) (hz : (z 2).val < 128 * Head.tilesOf t)
    (j : (⟨3, ![96, 1, 151936]⟩ : Shape).Idx) (h0 : (j 0).val = (z 0).val) (h2 : (j 2).val = 7680 * t + (z 2).val) :
    I.logits t z = I.allLogits j := by
  show I.tile t ((z 2).val / 128) (ValueIdx.ix2 (z 0) ⟨(z 2).val % 128, _⟩) = Head.logitAt I (j 0) (j 2)
  rw [Head.tile_apply I ht (by omega) (ValueIdx.ix2 (z 0) ⟨(z 2).val % 128, Nat.mod_lt _ (by decide)⟩) (j 2) (by
    show 7680 * t + 128 * ((z 2).val / 128) + (z 2).val % 128 = (j 2).val
    omega)]
  exact congrArg (fun r => Head.logitAt I r (j 2)) (Fin.ext h0.symm)

theorem arr6 (c : Dev nD) : (dats m 0 c).arrAt 6 cfg0.N = (inputs m c).allLogits := by
  refine (dats m 0 c).arrAt_eq_of_covers 6 _ (by decide +kernel) fun t hf y => ?_
  have e : (dats m 0 c).after 6 t = (inputs m c).logits t.val := by unfold dats; rfl
  rw [e]
  have hx : win0_6.xsize (grid0.coords t) 2 = 128 * Head.tilesOf t.val := xsize6 t 2
  have hy : (y 2).val < 128 * Head.tilesOf t.val := hx ▸ (y 2).isLt
  refine logits_at (inputs m c) t.val (point_lt t) _ hy _ ?_ ?_
  · show ((win0_6.rect t).emb y 0 : Nat) = (y 0).val
    exact Window.rect_emb_val_of_index_zero win0_6 t 0 (index6 t 0) y
  · refine (Window.rect_emb_val win0_6 t y 2).trans ?_
    have hi : win0_6.index t 2 = t.val := index6 t 2
    rw [hi]
    show t.val * 7680 + (y 2).val = 7680 * t.val + (y 2).val
    omega

/-! ## The host lines after the pipeline -/

/-- An array of the pipeline as the host lines find it. -/
theorem found_arr (c : Dev nD) (w : Fin 9) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) (fun w => (dats m 0 c).arrAt w cfg0.N) w

/-- A row read as a column. -/
theorem row_as_col {α : Type} (v : (⟨2, ![1, 96]⟩ : Shape).Idx → α) (h : (⟨2, ![1, 96]⟩ : Shape).ShapeCasts ⟨2, ![96, 1]⟩) (j : (⟨2, ![96, 1]⟩ : Shape).Idx) :
    shapeCast ⟨2, ![96, 1]⟩ v h j = v (ValueIdx.ix2 0 (j 0)) :=
  shapeCast_apply v h j _ (by
    rw [Shape.rowMajor_val_two, Shape.rowMajor_val_two]
    have h1 : (j 1).val = 0 := Nat.lt_one_iff.mp (j 1).isLt
    show 0 * 96 + (j 0).val = (j 0).val * 1 + (j 1).val
    omega)

/-- Rows read as a stack of one-row matrices. -/
theorem rows_as_stack {α : Type} (v : (⟨2, ![96, 896]⟩ : Shape).Idx → α) (h : (⟨2, ![96, 896]⟩ : Shape).ShapeCasts ⟨3, ![96, 1, 896]⟩) (j : (⟨3, ![96, 1, 896]⟩ : Shape).Idx) :
    shapeCast ⟨3, ![96, 1, 896]⟩ v h j = v (ValueIdx.ix2 (j 0) (j 2)) :=
  shapeCast_apply v h j _ (by
    rw [Shape.rowMajor_val_two, Shape.rowMajor_val_three]
    have h1 : (j 1).val = 0 := Nat.lt_one_iff.mp (j 1).isLt
    show (j 0).val * 896 + (j 2).val = ((j 0).val * 1 + (j 1).val) * 896 + (j 2).val
    omega)

theorem tail3 (c : Dev nD) : Pipeline.afterTail₀ cfgs (dats m) 0 (V0 m) [hostOps1] c main_v3 = (inputs m c).tokens := by
  unfold Pipeline.afterTail₀
  after_reads_simp
  funext j
  have e := (found_arr m c 3).trans (arr3 m c)
  refine (row_as_col _ _ j).trans ?_
  exact congrFun e _
theorem tail4 (c : Dev nD) : Pipeline.afterTail₀ cfgs (dats m) 0 (V0 m) [hostOps1] c main_v4 = (inputs m c).leads := by
  unfold Pipeline.afterTail₀
  after_reads_simp
  funext j
  have e := (found_arr m c 4).trans (arr4 m c)
  refine (row_as_col _ _ j).trans ?_
  exact congrFun e _
theorem tail5 (c : Dev nD) : Pipeline.afterTail₀ cfgs (dats m) 0 (V0 m) [hostOps1] c main_v5 = (inputs m c).bests := by
  unfold Pipeline.afterTail₀
  after_reads_simp
  funext j
  have e := (found_arr m c 5).trans (arr5 m c)
  refine (row_as_col _ _ j).trans ?_
  exact congrFun e _
theorem tail6 (c : Dev nD) : Pipeline.afterTail₀ cfgs (dats m) 0 (V0 m) [hostOps1] c main_v6 = (inputs m c).codes := by
  unfold Pipeline.afterTail₀
  after_reads_simp
  funext j
  have e := (found_arr m c 7).trans (arr7 m c)
  refine (rows_as_stack _ _ j).trans ?_
  exact congrFun e _
theorem tail7 (c : Dev nD) : Pipeline.afterTail₀ cfgs (dats m) 0 (V0 m) [hostOps1] c main_v7 = (inputs m c).scales := by
  unfold Pipeline.afterTail₀
  after_reads_simp
  funext j
  have e := (found_arr m c 8).trans (arr8 m c)
  refine (row_as_col _ _ j).trans ((congrFun e _).trans ?_)
  exact (Head.turned_apply _ (j 0)).trans (Head.scaleWide_apply _ _)

/-- The kernel's run: every result at its value, the arguments unchanged. -/
theorem run_results : θ_run defs (onTc (τ := τ) (main (F := Ideal))) ⟨m, fun _ => 0, ρ⟩ fun r => ∀ c : Dev nD,
      r.2.mem ((c : Thread nD τ).loc main_v3) = (inputs m c).tokens
      ∧ r.2.mem ((c : Thread nD τ).loc main_v4) = (inputs m c).leads
      ∧ r.2.mem ((c : Thread nD τ).loc main_v5) = (inputs m c).bests
      ∧ r.2.mem ((c : Thread nD τ).loc main_v2_3) = (inputs m c).allLogits
      ∧ r.2.mem ((c : Thread nD τ).loc main_v6) = (inputs m c).codes
      ∧ r.2.mem ((c : Thread nD τ).loc main_v7) = (inputs m c).scales
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v3 (Pipeline.mem_restRefs_of main_v3 (by decide) (by decide))).trans (tail3 m c),
      ((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).1 6).trans (arr6 m c),
      ((h.1 c).2 main_v6 (Pipeline.mem_restRefs_of main_v6 (by decide) (by decide))).trans (tail6 m c),
      ((h.1 c).2 main_v7 (Pipeline.mem_restRefs_of main_v7 (by decide) (by decide))).trans (tail7 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c))⟩) (run_main m ρ)

/-! ## The operands -/

/-- The activations as the region finds them: the argument's rows. -/
theorem V_main_v0 (c : Dev nD) : V m c main_v0 = shapeCast S96x896 (m ((c : Thread nD τ).loc main_arg0)) shapeCasts_S96x1x896_S96x896 := by
  show StableHlo.after (List.flatten [hostOps0]) (fun b => m (c, b)) (Proc.devRef .tc main_v0) = _
  after_reads_simp
  rfl

/-- The weights as the region finds them: the argument turned. -/
theorem V_main_v1 (c : Dev nD) (k : Fin 448) (d : Fin 151936) : V m c main_v1 (ValueIdx.ix2 k d) = m ((c : Thread nD τ).loc main_arg1) (ValueIdx.ix2 d k) := by
  show StableHlo.after (List.flatten [hostOps0]) (fun b => m (c, b)) (Proc.devRef .tc main_v1) (ValueIdx.ix2 k d) = _
  after_reads_simp
  refine transpose_apply _ _ _ _ (ValueIdx.ix2 d k) ?_
  intro b
  match b with
  | ⟨0, _⟩ => rfl
  | ⟨1, _⟩ => rfl

end Cert.KernelIdeal.Proof

end
-- ==== Proof.Head.RefValue.lean ====
/-
  What the reference computes from its three whole arrays, read at an index: the same scales, codes and logits as the
  kernel's, and the row's best, its least place and its lead over the rest.
-/
module

public import proofs.«01_k».proof.Proof.Gen.ReferenceIdeal.Frame
public import proofs.«01_k».proof.Proof.Head.Results

@[expose] public section

noncomputable section

namespace Cert.ReferenceIdeal.Proof

open Cert.ReferenceIdeal Cert.ReferenceIdeal.Gen Idealize.ShloMosaic Idealize.ShloMosaic.ValueIdx
open Head (scale codesF wide dotAt loCol hiCol loNib hiNib logitAt rowOf alongRow)
open scoped BigOperators

/-- The inputs of the head, from the reference's arrays: the weights turned. -/
def given (x : Vec Ideal S96x896 .bf16) (w : Vec Ideal S151936x448 .i8) (s : Vec Ideal S151936 .f32) : Head.Inputs Ideal where
  x := x
  w := fun j => w (ix2 (j 1) (j 0))
  s := s

variable (x : Vec Ideal S96x896 .bf16) (w : Vec Ideal S151936x448 .i8) (s : Vec Ideal S151936 .f32)

/-- A row's scale. -/
theorem scale_apply (r : Fin 96) : k0_pay11 x (ix1 r) = scale x (ix2 r 0) := by
  unfold k0_pay11 scale
  rw [select_apply, select_apply, cmpf_apply, cmpf_apply, divf_apply, divf_apply]
  rw [show (shapeCast Head.S96x1 (multiReduction .maximumf [1] Head.S96 (absf (wide x)) 0xFF800000#32 (by decide) (.inl rfl) rfl) (by decide) : FVec Ideal Head.S96x1 .f32) (ix2 r 0)
    = (multiReduction .maximumf [1] S96 (absf (k0_pay10 x)) 0xFF800000#32 reduces_S96x896_S96 (.inl rfl) rfl : FVec Ideal S96 .f32) (ix1 r) from shapeCast_a_a1_apply _ _ r 0]
  rfl

/-- The scales as a column. -/
theorem scale_col (h : S96.ShapeCasts S96x1) : shapeCast S96x1 (k0_pay11 x) h = scale x := by
  funext j
  have h1 : j 1 = (0 : Fin 1) := Subsingleton.elim (α := Fin 1) _ _
  rw [show j = ix2 (j 0) 0 from funext fun a => by match a with | ⟨0, _⟩ => rfl | ⟨1, _⟩ => exact h1]
  exact (shapeCast_a_a1_apply _ _ (j 0) 0).trans (scale_apply x (j 0))

/-- The codes. -/
theorem codes_eq : k0_pay12 x = fptosi 8 (codesF (F := Ideal) x) := by
  unfold k0_pay12 codesF
  rw [scale_col]
  rfl

/-- A code as a float is the kernel's. -/
theorem code_apply (i : S96x896.Idx) : (sitofp .bf16 (k0_pay12 x) : FVec Ideal S96x896 .bf16) i = (codesF (F := Ideal) x i : EReal) := by
  rw [sitofp_apply, codes_eq]
  exact Head.codes_back x i

/-- The low half of each group of 32 columns. -/
theorem low_half (y : FVec Ideal S96x896 .bf16) (r : Fin 96) (k : Fin 448) :
    shapeCast S96x448 (extractStridedSlice S96x28x16 ![0, 0, 0] (shapeCast S96x28x32 y shapeCasts_S96x896_S96x28x32) slices_S96x28x32_o0_0_0_S96x28x16)
      shapeCasts_S96x28x16_S96x448 (ix2 r k) = y (ix2 r (loCol k)) := by
  refine (shapeCast_apply _ _ (ix2 r k) (ix3 r (⟨k.val / 16, by omega⟩ : Fin 28) (⟨k.val % 16, by omega⟩ : Fin 16)) ?_).trans ?_
  · rw [Shape.rowMajor_val_three, Shape.rowMajor_val_two]
    show (r.val * 28 + k.val / 16) * 16 + k.val % 16 = r.val * 448 + k.val
    omega
  refine (extractStridedSlice_apply _ _ _ _ (ix3 r (⟨k.val / 16, by omega⟩ : Fin 28) (⟨k.val % 16, by omega⟩ : Fin 32)) ?_).trans ?_
  · intro a
    match a with
    | ⟨0, _⟩ => show r.val = 0 + r.val; omega
    | ⟨1, _⟩ => show k.val / 16 = 0 + k.val / 16; omega
    | ⟨2, _⟩ => show k.val % 16 = 0 + k.val % 16; omega
  refine shapeCast_apply _ _ _ (ix2 r (loCol k)) ?_
  rw [Shape.rowMajor_val_three, Shape.rowMajor_val_two]
  show r.val * 896 + (32 * (k.val / 16) + k.val % 16) = (r.val * 28 + k.val / 16) * 32 + k.val % 16
  omega

/-- The high half of each group of 32 columns. -/
theorem high_half (y : FVec Ideal S96x896 .bf16) (r : Fin 96) (k : Fin 448) :
    shapeCast S96x448 (extractStridedSlice S96x28x16 ![0, 0, 16] (shapeCast S96x28x32 y shapeCasts_S96x896_S96x28x32) slices_S96x28x32_o0_0_16_S96x28x16)
      shapeCasts_S96x28x16_S96x448 (ix2 r k) = y (ix2 r (hiCol k)) := by
  refine (shapeCast_apply _ _ (ix2 r k) (ix3 r (⟨k.val / 16, by omega⟩ : Fin 28) (⟨k.val % 16, by omega⟩ : Fin 16)) ?_).trans ?_
  · rw [Shape.rowMajor_val_three, Shape.rowMajor_val_two]
    show (r.val * 28 + k.val / 16) * 16 + k.val % 16 = r.val * 448 + k.val
    omega
  refine (extractStridedSlice_apply _ _ _ _ (ix3 r (⟨k.val / 16, by omega⟩ : Fin 28) (⟨16 + k.val % 16, by omega⟩ : Fin 32)) ?_).trans ?_
  · intro a
    match a with
    | ⟨0, _⟩ => show r.val = 0 + r.val; omega
    | ⟨1, _⟩ => show k.val / 16 = 0 + k.val / 16; omega
    | ⟨2, _⟩ => rfl
  refine shapeCast_apply _ _ _ (ix2 r (hiCol k)) ?_
  rw [Shape.rowMajor_val_three, Shape.rowMajor_val_two]
  show r.val * 896 + (32 * (k.val / 16) + 16 + k.val % 16) = (r.val * 28 + k.val / 16) * 32 + (16 + k.val % 16)
  omega

theorem dims_eq : dot_S96x448_S151936x448_S96x151936_1_1_0_0_n_n = DotDims.transposedRhs 96 448 151936 := rfl

/-- A row of codes against a row of bytes, times the row's scale. -/
theorem scores_apply (r : Fin 96) (c : Fin 151936) : k0_pay13 x w (ix2 r c) = dotAt x r (fun k => w (ix2 c k)) * scale x (ix2 r 0) := by
  unfold k0_pay13
  rw [scale_col]
  refine congrArg₂ (· * ·) (congrArg₂ (· + ·) ?_ ?_) (alongRow _ _ r c)
  · unfold matmul
    rw [dims_eq, Ideal.matmul_transposedRhs_apply, constant_apply, Ideal.ofBits_zero_f32, zero_add]
    refine Finset.sum_congr rfl fun k _ => congrArg₂ (· * ·) ((low_half _ r k).trans (code_apply x _)) ?_
    unfold loNib
    rw [← Head.ofBits_eight]
    rfl
  · unfold matmul
    rw [dims_eq, Ideal.matmul_transposedRhs_apply, constant_apply, Ideal.ofBits_zero_f32, zero_add]
    refine Finset.sum_congr rfl fun k _ => congrArg₂ (· * ·) ((high_half _ r k).trans (code_apply x _)) ?_
    unfold hiNib
    rw [← Head.ofBits_eight]
    rfl

/-- One logit. -/
theorem logit_apply (r : Fin 96) (c : Fin 151936) : k0_pay1 (k0_pay13 x w) s (ix2 r c) = logitAt (given x w s) r c := by
  unfold k0_pay1
  refine congrArg₂ (· * ·) (scores_apply x w r c) ?_
  refine (broadcastTo_apply _ _ _ (ix2 (n0 := 1) (n1 := 151936) 0 c) ?_).trans ?_
  · intro a
    match a with
    | ⟨0, _⟩ => rfl
    | ⟨1, _⟩ => rfl
  refine shapeCast_apply _ _ _ (ix1 c) ?_
  rw [Shape.rowMajor_val_one, Shape.rowMajor_val_two]
  show c.val = 0 * 151936 + c.val
  omega

/-- A row's best logit. -/
theorem best_apply (r : Fin 96) : k0_pay2 (k0_pay13 x w) s (ix1 r) = Finset.univ.sup (rowOf (given x w s) r) := by
  unfold k0_pay2
  refine (Head.rowMax_apply (n := 151936) _ _ _ rfl r).trans ?_
  exact congrArg Finset.univ.sup (funext fun c => logit_apply x w s r c)

/-- A column's number. -/
theorem number_apply (r : Fin 96) (d : Fin 151936) : iota .tc S96x151936 32 [1] iota_S96x151936_d1_w32 (ix2 r d) = BitVec.ofNat 32 d.val := by
  show BitVec.ofNat 32 (0 * 151936 + d.val) = _
  rw [Nat.zero_mul, Nat.zero_add]

/-- The best logit, repeated along its row. -/
theorem best_along (r : Fin 96) (d : Fin 151936) :
    broadcastTo S96x151936 (shapeCast S96x1 (k0_pay2 (k0_pay13 x w) s) shapeCasts_S96_S96x1) broadcasts_S96x1_S96x151936 (ix2 r d)
      = Finset.univ.sup (rowOf (given x w s) r) :=
  (alongRow _ _ r d).trans ((shapeCast_a_a1_apply _ _ r 0).trans (best_apply x w s r))

/-- A column's number where it holds the best logit, one past the last column elsewhere. -/
theorem mark_apply (r : Fin 96) (d : Fin 151936) :
    select (cmpf .oeq (k0_pay1 (k0_pay13 x w) s) (broadcastTo S96x151936 (shapeCast S96x1 (k0_pay2 (k0_pay13 x w) s) shapeCasts_S96_S96x1) broadcasts_S96x1_S96x151936))
        (iota .tc S96x151936 32 [1] iota_S96x151936_d1_w32) (broadcast S96x151936 151936#32) (ix2 r d)
      = if logitAt (given x w s) r d = Finset.univ.sup (rowOf (given x w s) r) then BitVec.ofNat 32 d.val else 151936#32 := by
  rw [select_apply, cmpf_apply, best_along, logit_apply, number_apply, broadcast_apply]
  exact Head.select_oeq _ _ _ _

/-- The least place of a row's best logit. -/
theorem place_apply (r : Fin 96) {c : Fin 151936} (hc : logitAt (given x w s) r c = Finset.univ.sup (rowOf (given x w s) r))
    (hm : ∀ d : Fin 151936, logitAt (given x w s) r d = Finset.univ.sup (rowOf (given x w s) r) → c ≤ d) :
    k0_pay3 (k0_pay13 x w) s (ix1 r) = BitVec.ofNat 32 c.val := by
  unfold k0_pay3
  refine Head.rowMin_least (n := 151936) _ _ rfl r c.val c ((mark_apply x w s r c).trans (if_pos hc)) fun d => ?_
  by_cases h : logitAt (given x w s) r d = Finset.univ.sup (rowOf (given x w s) r)
  · have h1 : c.val ≤ d.val := hm d h
    have h2 := d.isLt
    exact ⟨d.val, (mark_apply x w s r d).trans (if_pos h), h1, by omega⟩
  · have h2 := c.isLt
    exact ⟨151936, (mark_apply x w s r d).trans (if_neg h), by omega, by omega⟩

/-- The logit, less than any where it is the row's choice. -/
theorem other_apply (r : Fin 96) {c : Fin 151936} (hc : logitAt (given x w s) r c = Finset.univ.sup (rowOf (given x w s) r))
    (hm : ∀ d : Fin 151936, logitAt (given x w s) r d = Finset.univ.sup (rowOf (given x w s) r) → c ≤ d) (d : Fin 151936) :
    select (cmpi .eq (iota .tc S96x151936 32 [1] iota_S96x151936_d1_w32)
          (broadcastTo S96x151936 (shapeCast S96x1 (k0_pay3 (k0_pay13 x w) s) shapeCasts_S96_S96x1) broadcasts_S96x1_S96x151936))
        (broadcast S96x151936 (Scalar.ofBits .f32 0xFF800000#32)) (k0_pay1 (k0_pay13 x w) s) (ix2 r d)
      = if d.val = c.val then (⊥ : EReal) else logitAt (given x w s) r d := by
  have hp : broadcastTo S96x151936 (shapeCast S96x1 (k0_pay3 (k0_pay13 x w) s) shapeCasts_S96_S96x1) broadcasts_S96x1_S96x151936 (ix2 r d) = BitVec.ofNat 32 c.val :=
    (alongRow _ _ r d).trans ((shapeCast_a_a1_apply _ _ r 0).trans (place_apply x w s r hc hm))
  have hb : (Scalar.ofBits .f32 0xFF800000#32 : Ideal .f32) = (⊥ : EReal) := Head.ofBits_bot
  have h1 := c.isLt
  have h2 := d.isLt
  have he : ∀ (u v : IVec S96x151936 32) (j : S96x151936.Idx), cmpi .eq u v j = IntOp.cmpi .eq (u j) (v j) := fun _ _ _ => rfl
  rw [select_apply, he, hp, number_apply, logit_apply, broadcast_apply, hb]
  exact Head.select_eq_word (by omega) (by omega) _ _

/-- A row's lead: its best less the best of its other columns. -/
theorem lead_apply (r : Fin 96) {c : Fin 151936} (hc : logitAt (given x w s) r c = Finset.univ.sup (rowOf (given x w s) r))
    (hm : ∀ d : Fin 151936, logitAt (given x w s) r d = Finset.univ.sup (rowOf (given x w s) r) → c ≤ d) :
    k0_pay5 (k0_pay13 x w) s (ix2 r 0) = (Finset.univ.sup (rowOf (given x w s) r) : EReal)
      - Finset.univ.sup fun d : Fin 151936 => if d.val = c.val then ⊥ else logitAt (given x w s) r d := by
  unfold k0_pay5
  refine (shapeCast_a_a1_apply _ _ r 0).trans ?_
  rw [subf_apply, best_apply]
  exact congrArg (fun z : EReal => (Finset.univ.sup (rowOf (given x w s) r) : EReal) - z)
    (Head.rowMax_of (n := 151936) _ _ _ rfl r _ fun d => other_apply x w s r hc hm d)

/-! ## The six results -/

/-- An index of a column is its row. -/
theorem col_idx (j : S96x1.Idx) : j = ix2 (j 0) 0 := by
  have h1 : j 1 = (0 : Fin 1) := Subsingleton.elim (α := Fin 1) _ _
  exact funext fun a => by match a with | ⟨0, _⟩ => rfl | ⟨1, _⟩ => exact h1

/-- The least column with the best logit of a row. -/
theorem least (I : Head.Inputs Ideal) (r : Fin 96) : ∃ c : Fin 151936, logitAt I r c = Finset.univ.sup (rowOf I r)
    ∧ ∀ d : Fin 151936, logitAt I r d = Finset.univ.sup (rowOf I r) → c ≤ d :=
  Head.exists_least (n := 151936) (by decide) (rowOf I r)

theorem tokens_eq : k0_pay4 (k0_pay13 x w) s = (given x w s).tokens := by
  funext j
  rw [col_idx j]
  obtain ⟨c, hc, hm⟩ := least (given x w s) (j 0)
  unfold k0_pay4
  exact ((shapeCast_a_a1_apply _ _ (j 0) 0).trans (place_apply x w s (j 0) hc hm)).trans (Head.last_row _ (j 0) hc hm).2.1.symm

theorem leads_eq : k0_pay5 (k0_pay13 x w) s = (given x w s).leads := by
  funext j
  rw [col_idx j]
  obtain ⟨c, hc, hm⟩ := least (given x w s) (j 0)
  exact (lead_apply x w s (j 0) hc hm).trans (Head.last_row _ (j 0) hc hm).2.2.symm

theorem bests_eq : k0_pay6 (k0_pay13 x w) s = (given x w s).bests := by
  funext j
  rw [col_idx j]
  obtain ⟨c, hc, hm⟩ := least (given x w s) (j 0)
  unfold k0_pay6
  exact ((shapeCast_a_a1_apply _ _ (j 0) 0).trans (best_apply x w s (j 0))).trans (Head.last_row _ (j 0) hc hm).1.symm

/-- An index of a stack of one row each is its row and its column. -/
theorem stack_idx {n : Nat} (j : (⟨3, ![96, 1, n]⟩ : Shape).Idx) : j = ix3 (j 0) 0 (j 2) := by
  have h1 : j 1 = (0 : Fin 1) := Subsingleton.elim (α := Fin 1) _ _
  exact funext fun a => by match a with | ⟨0, _⟩ => rfl | ⟨1, _⟩ => exact h1 | ⟨2, _⟩ => rfl

/-- A matrix read as a stack of one row each. -/
theorem stack_apply {α : Type} {n : Nat} (v : (⟨2, ![96, n]⟩ : Shape).Idx → α) (h : (⟨2, ![96, n]⟩ : Shape).ShapeCasts ⟨3, ![96, 1, n]⟩) (r : Fin 96) (c : Fin n) :
    shapeCast ⟨3, ![96, 1, n]⟩ v h (ix3 r 0 c) = v (ix2 r c) := by
  refine shapeCast_apply _ _ _ (ix2 r c) ?_
  rw [Shape.rowMajor_val_three, Shape.rowMajor_val_two]
  show r.val * n + c.val = (r.val * 1 + 0) * n + c.val
  rw [Nat.mul_one, Nat.add_zero]

theorem logits_eq : k0_pay7 (k0_pay13 x w) s = (given x w s).allLogits := by
  funext j
  rw [stack_idx j]
  unfold k0_pay7
  exact (stack_apply _ _ (j 0) (j 2)).trans (logit_apply x w s (j 0) (j 2))

theorem all_codes_eq : k0_pay8 (k0_pay12 x) = (given x w s).codes := by
  funext j
  rw [stack_idx j, codes_eq]
  unfold k0_pay8
  exact stack_apply _ _ (j 0) (j 2)

theorem scales_eq : k0_pay9 (k0_pay11 x) = (given x w s).scales := by
  funext j
  rw [col_idx j]
  unfold k0_pay9
  rw [scale_col]
  rfl

end Cert.ReferenceIdeal.Proof

end
-- ==== Proof.Head.RefRun.lean ====
/-
  The reference's run: each of its six result arrays ends at the value its whole arrays determine.
-/
module

public import proofs.«01_k».proof.Proof.Head.RefValue
public import Idealize.ShloMosaic.Lib.Pipeline.ValueKit

@[expose] public section

noncomputable section

namespace Cert.ReferenceIdeal.Proof

open Cert.ReferenceIdeal Cert.ReferenceIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The head's inputs, as the reference's arrays hold them. -/
def inputs (c : Dev nD) : Head.Inputs Ideal := given (V m c main_v0) (V m c main_arg1) (V m c main_arg2)

/-- The grid's one point. -/
abbrev t0 : Fin cfg0.N := ⟨0, by decide⟩

theorem iblk0 (c : Dev nD) (t : Fin cfg0.N) : iblk m c 0 t = V m c main_v0 := by
  funext j
  show V m c main_v0 _ = V m c main_v0 j
  refine congrArg (V m c main_v0) (funext fun a => Fin.ext ?_)
  match a with
  | 0 => show 0 * 96 + 1 * (j 0).val = (j 0).val; omega
  | 1 => show 0 * 896 + 1 * (j 1).val = (j 1).val; omega

theorem iblk1 (c : Dev nD) (t : Fin cfg0.N) : iblk m c 1 t = V m c main_arg1 := by
  funext j
  show V m c main_arg1 _ = V m c main_arg1 j
  refine congrArg (V m c main_arg1) (funext fun a => Fin.ext ?_)
  match a with
  | 0 => show 0 * 151936 + 1 * (j 0).val = (j 0).val; omega
  | 1 => show 0 * 448 + 1 * (j 1).val = (j 1).val; omega

theorem iblk2 (c : Dev nD) (t : Fin cfg0.N) : iblk m c 2 t = V m c main_arg2 := by
  funext j
  show V m c main_arg2 _ = V m c main_arg2 j
  refine congrArg (V m c main_arg2) (funext fun a => Fin.ext ?_)
  match a with
  | 0 => show 0 * 151936 + 1 * (j 0).val = (j 0).val; omega

/-! ## What the body leaves, over variables -/

section Out

variable (x : Vec Ideal S96x896 .bf16) (w : Vec Ideal S151936x448 .i8) (s : Vec Ideal S151936 .f32)

theorem out3 : out0_3 x w s = (given x w s).tokens := by
  refine Eq.trans ?_ (tokens_eq x w s)
  unfold out0_3 k0_pay14
  frame_out
theorem out4 : out0_4 x w s = (given x w s).leads := by
  refine Eq.trans ?_ (leads_eq x w s)
  unfold out0_4 k0_pay14
  frame_out
theorem out5 : out0_5 x w s = (given x w s).bests := by
  refine Eq.trans ?_ (bests_eq x w s)
  unfold out0_5 k0_pay14
  frame_out
theorem out6 : out0_6 x w s = (given x w s).allLogits := by
  refine Eq.trans ?_ (logits_eq x w s)
  unfold out0_6 k0_pay14
  frame_out
theorem out7 : out0_7 x w s = (given x w s).codes := by
  refine Eq.trans ?_ (all_codes_eq x w s)
  frame_out
theorem out8 : out0_8 x w s = (given x w s).scales := by
  refine Eq.trans ?_ (scales_eq x w s)
  frame_out

end Out

/-! ## The arrays after the run -/

theorem arr3 (c : Dev nD) : (dats m 0 c).arrAt 3 cfg0.N = (inputs m c).tokens := by
  refine (dats m 0 c).arrAt_eq_of_after_last 3 t0 (by decide +kernel) _ fun j => ?_
  have e : (dats m 0 c).after 3 t0 = (inputs m c).tokens := by
    rw [after0_3, iblk0, iblk1, iblk2, out3]; rfl
  rw [e]
  generalize (inputs m c).tokens = G
  rfl
theorem arr4 (c : Dev nD) : (dats m 0 c).arrAt 4 cfg0.N = (inputs m c).leads := by
  refine (dats m 0 c).arrAt_eq_of_after_last 4 t0 (by decide +kernel) _ fun j => ?_
  have e : (dats m 0 c).after 4 t0 = (inputs m c).leads := by
    rw [after0_4, iblk0, iblk1, iblk2, out4]; rfl
  rw [e]
  generalize (inputs m c).leads = G
  rfl
theorem arr5 (c : Dev nD) : (dats m 0 c).arrAt 5 cfg0.N = (inputs m c).bests := by
  refine (dats m 0 c).arrAt_eq_of_after_last 5 t0 (by decide +kernel) _ fun j => ?_
  have e : (dats m 0 c).after 5 t0 = (inputs m c).bests := by
    rw [after0_5, iblk0, iblk1, iblk2, out5]; rfl
  rw [e]
  generalize (inputs m c).bests = G
  rfl
theorem arr6 (c : Dev nD) : (dats m 0 c).arrAt 6 cfg0.N = (inputs m c).allLogits := by
  refine (dats m 0 c).arrAt_eq_of_after_last 6 t0 (by decide +kernel) _ fun j => ?_
  have e : (dats m 0 c).after 6 t0 = (inputs m c).allLogits := by
    rw [after0_6, iblk0, iblk1, iblk2, out6]; rfl
  rw [e]
  generalize (inputs m c).allLogits = G
  rfl
theorem arr7 (c : Dev nD) : (dats m 0 c).arrAt 7 cfg0.N = (inputs m c).codes := by
  refine (dats m 0 c).arrAt_eq_of_after_last 7 t0 (by decide +kernel) _ fun j => ?_
  have e : (dats m 0 c).after 7 t0 = (inputs m c).codes := by
    rw [after0_7, iblk0, iblk1, iblk2, out7]; rfl
  rw [e]
  generalize (inputs m c).codes = G
  rfl
theorem arr8 (c : Dev nD) : (dats m 0 c).arrAt 8 cfg0.N = (inputs m c).scales := by
  refine (dats m 0 c).arrAt_eq_of_after_last 8 t0 (by decide +kernel) _ fun j => ?_
  have e : (dats m 0 c).after 8 t0 = (inputs m c).scales := by
    rw [after0_8, iblk0, iblk1, iblk2, out8]; rfl
  rw [e]
  generalize (inputs m c).scales = G
  rfl

/-- The reference's run: every result at its value, the arguments unchanged. -/
theorem run_results : θ_run defs (onTc (τ := τ) (main (F := Ideal))) ⟨m, fun _ => 0, ρ⟩ fun r => ∀ c : Dev nD,
      r.2.mem ((c : Thread nD τ).loc main_v1_0) = (inputs m c).tokens
      ∧ r.2.mem ((c : Thread nD τ).loc main_v1_1) = (inputs m c).leads
      ∧ r.2.mem ((c : Thread nD τ).loc main_v1_2) = (inputs m c).bests
      ∧ r.2.mem ((c : Thread nD τ).loc main_v1_3) = (inputs m c).allLogits
      ∧ r.2.mem ((c : Thread nD τ).loc main_v1_4) = (inputs m c).codes
      ∧ r.2.mem ((c : Thread nD τ).loc main_v1_5) = (inputs m c).scales
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (arr3 m c), ((h c).1 4).trans (arr4 m c), ((h c).1 5).trans (arr5 m c),
    ((h c).1 6).trans (arr6 m c), ((h c).1 7).trans (arr7 m c), ((h c).1 8).trans (arr8 m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

/-- The activations as the region finds them: the argument's rows. -/
theorem V_main_v0 (c : Dev nD) : V m c main_v0 = shapeCast S96x896 (m ((c : Thread nD τ).loc main_arg0)) shapeCasts_S96x1x896_S96x896 := by
  show StableHlo.after hostOps0 (fun b => m (c, b)) (Proc.devRef .tc main_v0) = _
  rw [StableHlo.after_cons, StableHlo.after_nil, StableHlo.reshape_result']
  rfl

end Cert.ReferenceIdeal.Proof

end
-- ==== Proof.Head.Agree.lean ====
/-
  The idealized kernel and the reference, run from the same arguments, end with the same six results.
-/
module

public import proofs.«01_k».proof.Defs
public import proofs.«01_k».proof.Proof.Head.ValueKernelIdeal
public import proofs.«01_k».proof.Proof.Head.RefRun

@[expose] public section

noncomputable section

namespace Cert.Proof

open Idealize.ShloMosaic Idealize.ShloMosaic.TcCoe Idealize.SL.Sem

/-- Equal arguments are equal operands: both programs read the activations' rows and the scales as given, the kernel the
    packed weights turned, which is how the reference's operands state them. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Proof.inputs m' c = Cert.KernelIdeal.Proof.inputs m c := by
  have ex : (Cert.ReferenceIdeal.Proof.inputs m' c).x = (Cert.KernelIdeal.Proof.inputs m c).x :=
    (Cert.ReferenceIdeal.Proof.V_main_v0 m' c).trans (Eq.trans (by rw [h0]) (Cert.KernelIdeal.Proof.V_main_v0 m c).symm)
  have ew : (Cert.ReferenceIdeal.Proof.inputs m' c).w = (Cert.KernelIdeal.Proof.inputs m c).w := by
    funext j
    refine Eq.trans ?_ ((Cert.KernelIdeal.Proof.V_main_v1 m c (j 0) (j 1)).symm.trans ?_)
    · show Cert.ReferenceIdeal.Gen.V m' c Cert.ReferenceIdeal.main_arg1 (ValueIdx.ix2 (j 1) (j 0)) = _
      rw [Cert.ReferenceIdeal.Gen.V_main_arg1, h1]
    · exact congrArg (Cert.KernelIdeal.Gen.V m c Cert.KernelIdeal.main_v1) (funext fun a => match a with | ⟨0, _⟩ => rfl | ⟨1, _⟩ => rfl)
  have es : (Cert.ReferenceIdeal.Proof.inputs m' c).s = (Cert.KernelIdeal.Proof.inputs m c).s :=
    (Cert.ReferenceIdeal.Gen.V_main_arg2 m' c).trans (h2.trans (Cert.KernelIdeal.Gen.V_main_arg2 m c).symm)
  generalize Cert.ReferenceIdeal.Proof.inputs m' c = I at ex ew es
  generalize Cert.KernelIdeal.Proof.inputs m c = J at ex ew es
  obtain ⟨x, w, s⟩ := I
  obtain ⟨x', w', s'⟩ := J
  subst ex ew es
  rfl

/-- The two programs agree: tokens, leads, best logits, all logits, codes and scales. -/
theorem agree : Cert.algebraic_KernelIdeal_ReferenceIdeal (hKernelIdeal := Cert.KernelIdeal.Gen.facts) (hReferenceIdeal := Cert.ReferenceIdeal.Gen.facts) := by
  intro m g m' g' _ h
  refine ⟨fun c => (Cert.KernelIdeal.Proof.inputs m c).tokens, fun c => (Cert.KernelIdeal.Proof.inputs m c).leads, fun c => (Cert.KernelIdeal.Proof.inputs m c).bests,
    fun c => (Cert.KernelIdeal.Proof.inputs m c).allLogits, fun c => (Cert.KernelIdeal.Proof.inputs m c).codes, fun c => (Cert.KernelIdeal.Proof.inputs m c).scales,
    Cert.KernelIdeal.Proof.run_results m g, (θ_run _ _ _).mono (fun _ h' c => ?_) (Cert.ReferenceIdeal.Proof.run_results m' g')⟩
  have e := inputs_eq m m' c (h c).1 (h c).2.1 (h c).2.2
  have r := h' c
  rw [e] at r
  exact r

end Cert.Proof

end
-- ==== Proof.lean ====
module

public import proofs.«01_k».proof.Defs
public import proofs.«01_k».proof.Proof.Head.RunKernel
public import proofs.«01_k».proof.Proof.Head.RunKernelIdeal
public import proofs.«01_k».proof.Proof.Head.Agree

@[expose] public section

noncomputable section

namespace Cert.Proof

open Idealize.ShloMosaic Idealize.SL.Sem Cert.Kernel

/-- Every claim holds. -/
theorem claim : Cert.Claim := ⟨Cert.Kernel.Gen.facts, Cert.KernelIdeal.Gen.facts, Cert.ReferenceIdeal.Gen.facts,
  fun m g _ => Cert.Kernel.Proof.quiescent m g,
  fun m g _ => Cert.KernelIdeal.Proof.quiescent m g,
  fun m g _ => Cert.ReferenceIdeal.Gen.frame m g,
  trivial,
  agree⟩

end Cert.Proof

end
